-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_points_and_nonzero_eps [hPre_finite_points_and_nonzero_eps : Cert.Pre_finite_points_and_nonzero_eps.Facts] (m : (ℓ : Loc Cert.KernelIdeal.nD Cert.KernelIdeal.τ Cert.KernelIdeal.sig) → Buf (Elt Ideal) ℓ) : Prop :=
  ∀ c : Dev Cert.KernelIdeal.nD,
    (Cert.Pre_finite_points_and_nonzero_eps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_points_and_nonzero_eps [hPre_finite_points_and_nonzero_eps : Cert.Pre_finite_points_and_nonzero_eps.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_points_and_nonzero_eps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_points_and_nonzero_eps [hKernelIdeal : Cert.KernelIdeal.Facts] [hPre_finite_points_and_nonzero_eps : Cert.Pre_finite_points_and_nonzero_eps.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_points_and_nonzero_eps m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_points_and_nonzero_eps [hReferenceIdeal : Cert.ReferenceIdeal.Facts] [hPre_finite_points_and_nonzero_eps : Cert.Pre_finite_points_and_nonzero_eps.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_points_and_nonzero_eps m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_points_and_nonzero_eps [hKernelIdeal : Cert.KernelIdeal.Facts] [hReferenceIdeal : Cert.ReferenceIdeal.Facts] [hPre_finite_points_and_nonzero_eps : Cert.Pre_finite_points_and_nonzero_eps.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_points_and_nonzero_eps m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_points_and_nonzero_eps : Cert.Pre_finite_points_and_nonzero_eps.Facts),
    quiescent_Kernel (hKernel := hKernel)
    ∧ quiescent_KernelIdeal (hKernelIdeal := hKernelIdeal)
    ∧ quiescent_KernelIdeal_pre_finite_points_and_nonzero_eps (hKernelIdeal := hKernelIdeal) (hPre_finite_points_and_nonzero_eps := hPre_finite_points_and_nonzero_eps)
    ∧ quiescent_ReferenceIdeal (hReferenceIdeal := hReferenceIdeal)
    ∧ quiescent_ReferenceIdeal_pre_finite_points_and_nonzero_eps (hReferenceIdeal := hReferenceIdeal) (hPre_finite_points_and_nonzero_eps := hPre_finite_points_and_nonzero_eps)
    ∧ preserves_Kernel_KernelIdeal
    ∧ algebraic_KernelIdeal_ReferenceIdeal_pre_finite_points_and_nonzero_eps (hKernelIdeal := hKernelIdeal) (hReferenceIdeal := hReferenceIdeal) (hPre_finite_points_and_nonzero_eps := hPre_finite_points_and_nonzero_eps)
-- ==== Pre_finite_points_and_nonzero_eps.lean ====
abbrev S4x1024x256 : Shape := ⟨3, ![4, 1024, 256]⟩
abbrev S1 : Shape := ⟨1, ![1]⟩
abbrev S_ : Shape := ⟨0, ![]⟩

class Facts : Prop where
  bcast_S_S4x1024x256 : S_.BroadcastsInDim S4x1024x256 (![] : Fin 0 → Fin S4x1024x256.rank)
  reducesTo_S4x1024x256_S_d0_1_2 : S4x1024x256.ReducesTo [0, 1, 2] S_
  h_S_ : 0 < S_.numel
  shapeCasts_S1_S_ : S1.ShapeCasts S_

variable [Facts]

def fn {F : FTy → Type} [FloatOps F] (main_arg0 : FVec F S4x1024x256 .f32) (main_arg1 : FVec F S4x1024x256 .f32) (main_arg2 : FVec F S1 .f32) : IVec S_ 1 :=
  let main_v0 : FVec F S4x1024x256 .f32 := Host.absf main_arg0
  let main_cst : FVec F S_ .f32 := constant S_ .f32 0x7F800000#32
  let main_v1 : FVec F S4x1024x256 .f32 := broadcastInDim S4x1024x256 ![] bcast_S_S4x1024x256 main_cst
  let main_v2 : IVec S4x1024x256 1 := cmpf .olt main_v0 main_v1
  let main_c : IVec S_ 1 := constantI S_ 1 1#1
  let main_v3 : IVec S_ 1 := (fun x v => Host.reduce IntOp.andi x v reducesTo_S4x1024x256_S_d0_1_2 h_S_) main_v2 main_c
  let main_v4 : FVec F S4x1024x256 .f32 := Host.absf main_arg1
  let main_cst_0 : FVec F S_ .f32 := constant S_ .f32 0x7F800000#32
  let main_v5 : FVec F S4x1024x256 .f32 := broadcastInDim S4x1024x256 ![] bcast_S_S4x1024x256 main_cst_0
  let main_v6 : IVec S4x1024x256 1 := cmpf .olt main_v4 main_v5
  let main_c_1 : IVec S_ 1 := constantI S_ 1 1#1
  let main_v7 : IVec S_ 1 := (fun x v => Host.reduce IntOp.andi x v reducesTo_S4x1024x256_S_d0_1_2 h_S_) main_v6 main_c_1
  let main_v8 : IVec S_ 1 := andi main_v3 main_v7
  let main_v9 : FVec F S_ .f32 := shapeCast S_ main_arg2 shapeCasts_S1_S_
  let main_cst_2 : FVec F S_ .f32 := constant S_ .f32 0x00000000#32
  let main_v10 : IVec S_ 1 := cmpf .une main_v9 main_cst_2
  let main_v11 : IVec S_ 1 := andi main_v8 main_v10
  main_v11
-- ==== Kernel.lean ====
abbrev S4x1024x256 : Shape := ⟨3, ![4, 1024, 256]⟩
abbrev S1 : Shape := ⟨1, ![1]⟩
abbrev S_ : Shape := ⟨0, ![]⟩
abbrev S1x1 : Shape := ⟨2, ![1, 1]⟩
abbrev S2x1024x256 : Shape := ⟨3, ![2, 1024, 256]⟩
abbrev S2x1024x1024 : Shape := ⟨3, ![2, 1024, 1024]⟩
abbrev S1x1024x256 : Shape := ⟨3, ![1, 1024, 256]⟩
abbrev S1024x256 : Shape := ⟨2, ![1024, 256]⟩
abbrev S1024x1024 : Shape := ⟨2, ![1024, 1024]⟩
abbrev S1024 : Shape := ⟨1, ![1024]⟩
abbrev S1024x1 : Shape := ⟨2, ![1024, 1]⟩
abbrev S1x256 : Shape := ⟨2, ![1, 256]⟩
abbrev S1x1024 : Shape := ⟨2, ![1, 1024]⟩
abbrev S1x1024x1024 : Shape := ⟨3, ![1, 1024, 1024]⟩

abbrev nBuf : Space → Nat
  | .hbm => 8
  | .vmem => 7
  | .smem => 1
  | _ => 0

abbrev bufTy : (tb : Table) → Fin (tcTables nBuf tb) → BufTy
  | .hbm, ⟨0, _⟩ => ⟨S4x1024x256, .f32⟩
  | .hbm, ⟨1, _⟩ => ⟨S4x1024x256, .f32⟩
  | .hbm, ⟨2, _⟩ => ⟨S1, .f32⟩
  | .hbm, ⟨3, _⟩ => ⟨S_, .f32⟩
  | .hbm, ⟨4, _⟩ => ⟨S1, .f32⟩
  | .hbm, ⟨5, _⟩ => ⟨S1, .f32⟩
  | .hbm, ⟨6, _⟩ => ⟨S1x1, .f32⟩
  | .hbm, ⟨7, _⟩ => ⟨S4x1024x256, .f32⟩
  | .local _ .vmem, ⟨0, _⟩ => ⟨S2x1024x256, .f32⟩
  | .local _ .vmem, ⟨1, _⟩ => ⟨S2x1024x256, .f32⟩
  | .local _ .vmem, ⟨2, _⟩ => ⟨S2x1024x256, .f32⟩
  | .local _ .vmem, ⟨3, _⟩ => ⟨S2x1024x256, .f32⟩
  | .local _ .vmem, ⟨4, _⟩ => ⟨S2x1024x256, .f32⟩
  | .local _ .vmem, ⟨5, _⟩ => ⟨S2x1024x256, .f32⟩
  | .local _ .vmem, ⟨6, _⟩ => ⟨S2x1024x1024, .f32⟩
  | .local _ .smem, ⟨0, _⟩ => ⟨S1x1, .f32⟩
  | _, _ => ⟨S4x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c19_i32 : BitVec 32 := 19#32
  let v95 : BitVec 32 := Scalar.addi c0_i32 c19_i32
  let c1_i32 : BitVec 32 := 1#32
  ⟨c0_i32, v95, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x1024x256 : Shape := ⟨3, ![4, 1024, 256]⟩
abbrev S1 : Shape := ⟨1, ![1]⟩
abbrev S_ : Shape := ⟨0, ![]⟩
abbrev S4x1024 : Shape := ⟨2, ![4, 1024]⟩
abbrev S4x1024x1024 : Shape := ⟨3, ![4, 1024, 1024]⟩
abbrev S4x1024x1 : Shape := ⟨3, ![4, 1024, 1]⟩
abbrev S4x1x1024 : Shape := ⟨3, ![4, 1, 1024]⟩
abbrev S4x1048576 : Shape := ⟨2, ![4, 1048576]⟩
abbrev S4 : Shape := ⟨1, ![4]⟩
abbrev S4x1x1 : Shape := ⟨3, ![4, 1, 1]⟩

abbrev nBuf : Space → Nat
  | .hbm => 138
  | .vmem => 0
  | .smem => 0
  | _ => 0

abbrev hbmTy0_0 (i : Nat) : BufTy := match i % 128 with
  | 0 => ⟨S4x1024x256, .f32⟩
  | 1 => ⟨S4x1024x256, .f32⟩
  | 2 => ⟨S1, .f32⟩
  | 3 => ⟨S4x1024x256, .f32⟩
  | 4 => ⟨S_, .f32⟩
  | 5 => ⟨S4x1024, .f32⟩
  | 6 => ⟨S4x1024x256, .f32⟩
  | 7 => ⟨S_, .f32⟩
  | 8 => ⟨S4x1024, .f32⟩
  | 9 => ⟨S4x1024x1024, .f32⟩
  | 10 => ⟨S4x1024x1, .f32⟩
  | 11 => ⟨S4x1x1024, .f32⟩
  | 12 => ⟨S4x1024x1024, .f32⟩
  | 13 => ⟨S4x1024x1024, .f32⟩
  | 14 => ⟨S4x1024x1024, .f32⟩
  | 15 => ⟨S_, .f32⟩
  | 16 => ⟨S4x1024x1024, .f32⟩
  | 17 => ⟨S4x1024x1024, .f32⟩
  | 18 => ⟨S4x1024x1024, .f32⟩
  | 19 => ⟨S_, .f32⟩
  | 20 => ⟨S4x1024x1024, .f32⟩
  | 21 => ⟨S4x1024x1024, .f32⟩
  | 22 => ⟨S4x1048576, .f32⟩
  | 23 => ⟨S_, .f32⟩
  | 24 => ⟨S4, .f32⟩
  | 25 => ⟨S4x1x1, .f32⟩
  | 26 => ⟨S4x1024x1024, .f32⟩
  | 27 => ⟨S4x1024x1024, .f32⟩
  | 28 => ⟨S4x1024x1024, .f32⟩
  | 29 => ⟨S_, .f32⟩
  | 30 => ⟨S4x1024x1024, .f32⟩
  | 31 => ⟨S4x1024x1024, .f32⟩
  | 32 => ⟨S_, .f32⟩
  | 33 => ⟨S4x1024, .f32⟩
  | 34 => ⟨S_, .f32⟩
  | 35 => ⟨S4x1024, .f32⟩
  | 36 => ⟨S_, .f32⟩
  | 37 => ⟨S4x1024, .f32⟩
  | 38 => ⟨S_, .i32⟩
  | 39 => ⟨S_, .i32⟩
  | 40 => ⟨S4x1024x1024, .f32⟩
  | 41 => ⟨S4x1024, .f32⟩
  | 42 => ⟨S4x1024, .f32⟩
  | 43 => ⟨S_, .i32⟩
  | 44 => ⟨S_, .i32⟩
  | 45 => ⟨S4x1024, .f32⟩
  | 46 => ⟨S_, .i32⟩
  | 47 => ⟨S_, .i1⟩
  | 48 => ⟨S_, .i32⟩
  | 49 => ⟨S_, .i32⟩
  | 50 => ⟨S4x1024x1, .f32⟩
  | 51 => ⟨S4x1024x1024, .f32⟩
  | 52 => ⟨S4x1024x1024, .f32⟩
  | 53 => ⟨S_, .f32⟩
  | 54 => ⟨S4x1024, .f32⟩
  | 55 => ⟨S4x1x1024, .f32⟩
  | 56 => ⟨S4x1x1024, .f32⟩
  | 57 => ⟨S_, .f32⟩
  | 58 => ⟨S4x1x1024, .f32⟩
  | 59 => ⟨S4x1x1024, .i1⟩
  | 60 => ⟨S_, .f32⟩
  | 61 => ⟨S_, .f32⟩
  | 62 => ⟨S4x1x1024, .f32⟩
  | 63 => ⟨S4x1x1024, .f32⟩
  | 64 => ⟨S4x1024x1024, .f32⟩
  | 65 => ⟨S4x1024x1024, .f32⟩
  | 66 => ⟨S4x1024x1024, .f32⟩
  | 67 => ⟨S_, .f32⟩
  | 68 => ⟨S4x1024, .f32⟩
  | 69 => ⟨S4x1024, .f32⟩
  | 70 => ⟨S4x1024, .f32⟩
  | 71 => ⟨S4x1024, .f32⟩
  | 72 => ⟨S4x1024, .f32⟩
  | 73 => ⟨S4x1x1024, .f32⟩
  | 74 => ⟨S4x1024x1024, .f32⟩
  | 75 => ⟨S4x1024x1024, .f32⟩
  | 76 => ⟨S_, .f32⟩
  | 77 => ⟨S4x1024, .f32⟩
  | 78 => ⟨S4x1024x1, .f32⟩
  | 79 => ⟨S4x1024x1, .f32⟩
  | 80 => ⟨S_, .f32⟩
  | 81 => ⟨S4x1024x1, .f32⟩
  | 82 => ⟨S4x1024x1, .i1⟩
  | 83 => ⟨S_, .f32⟩
  | 84 => ⟨S_, .f32⟩
  | 85 => ⟨S4x1024x1, .f32⟩
  | 86 => ⟨S4x1024x1, .f32⟩
  | 87 => ⟨S4x1024x1024, .f32⟩
  | 88 => ⟨S4x1024x1024, .f32⟩
  | 89 => ⟨S4x1024x1024, .f32⟩
  | 90 => ⟨S_, .f32⟩
  | 91 => ⟨S4x1024, .f32⟩
  | 92 => ⟨S4x1024, .f32⟩
  | 93 => ⟨S4x1024, .f32⟩
  | 94 => ⟨S4x1024, .f32⟩
  | 95 => ⟨S4x1024, .f32⟩
  | 96 => ⟨S_, .i32⟩
  | 97 => ⟨S_, .i32⟩
  | 98 => ⟨S4x1024x1, .f32⟩
  | 99 => ⟨S4x1024x1024, .f32⟩
  | 100 => ⟨S4x1024x1024, .f32⟩
  | 101 => ⟨S_, .f32⟩
  | 102 => ⟨S4x1024, .f32⟩
  | 103 => ⟨S4x1x1024, .f32⟩
  | 104 => ⟨S4x1x1024, .f32⟩
  | 105 => ⟨S_, .f32⟩
  | 106 => ⟨S4x1x1024, .f32⟩
  | 107 => ⟨S4x1x1024, .i1⟩
  | 108 => ⟨S_, .f32⟩
  | 109 => ⟨S_, .f32⟩
  | 110 => ⟨S4x1x1024, .f32⟩
  | 111 => ⟨S4x1x1024, .f32⟩
  | 112 => ⟨S4x1024x1024, .f32⟩
  | 113 => ⟨S4x1024x1024, .f32⟩
  | 114 => ⟨S4x1024x1024, .f32⟩
  | 115 => ⟨S_, .f32⟩
  | 116 => ⟨S4x1024, .f32⟩
  | 117 => ⟨S4x1024, .f32⟩
  | 118 => ⟨S4x1024, .f32⟩
  | 119 => ⟨S4x1024, .f32⟩
  | 120 => ⟨S4x1024, .f32⟩
  | 121 => ⟨S4x1024x1, .f32⟩
  | 122 => ⟨S4x1024x1024, .f32⟩
  | 123 => ⟨S4x1024x1024, .f32⟩
  | 124 => ⟨S4x1x1024, .f32⟩
  | 125 => ⟨S4x1024x1024, .f32⟩
  | 126 => ⟨S4x1024x1024, .f32⟩
  | 127 => ⟨S4x1024x1024, .f32⟩
  | _ => ⟨S4x1024x256, .f32⟩

abbrev hbmTy0_1 (i : Nat) : BufTy := match i % 128 with
  | 0 => ⟨S_, .f32⟩
  | 1 => ⟨S4x1024, .f32⟩
  | 2 => ⟨S4x1024x1, .f32⟩
  | 3 => ⟨S_, .f32⟩
  | 4 => ⟨S_, .f32⟩
  | 5 => ⟨S4x1024x1, .f32⟩
  | 6 => ⟨S4x1024x1, .f32⟩
  | 7 => ⟨S4x1024x256, .f32⟩
  | 8 => ⟨S4x1024x256, .f32⟩
  | 9 => ⟨S4x1024x256, .f32⟩
  | _ => ⟨S4x1024x256, .f32⟩

abbrev hbmTy (i : Nat) : BufTy := match i / 128 with
  | 0 => hbmTy0_0 i
  | 1 => hbmTy0_1 i
  | _ => ⟨S4x1024x256, .f32⟩

abbrev bufTy : (tb : Table) → Fin (tcTables nBuf tb) → BufTy
  | .hbm, ⟨i, _⟩ => hbmTy i
  | _, _ => ⟨S4x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_c : Ref sig .tc := ⟨.hbm, 38, rfl⟩
abbrev main_c_7 : Ref sig .tc := ⟨.hbm, 39, rfl⟩
abbrev main_v27_0 : Ref sig .tc := ⟨.hbm, 40, rfl⟩
abbrev main_v27_1 : Ref sig .tc := ⟨.hbm, 41, rfl⟩
abbrev main_v27_2 : Ref sig .tc := ⟨.hbm, 42, rfl⟩
abbrev main_v27_3 : Ref sig .tc := ⟨.hbm, 43, rfl⟩
abbrev main_v27_4 : Ref sig .tc := ⟨.hbm, 44, rfl⟩
abbrev main_v27_5 : Ref sig .tc := ⟨.hbm, 45, rfl⟩
abbrev main_while0c_c_19 : Ref sig .tc := ⟨.hbm, 46, rfl⟩
abbrev main_while0c_v58 : Ref sig .tc := ⟨.hbm, 47, rfl⟩
abbrev main_while0b_c_19 : Ref sig .tc := ⟨.hbm, 48, rfl⟩
abbrev main_while0b_v58 : Ref sig .tc := ⟨.hbm, 49, rfl⟩
abbrev main_while0b_v59 : Ref sig .tc := ⟨.hbm, 50, rfl⟩
abbrev main_while0b_v60 : Ref sig .tc := ⟨.hbm, 51, rfl⟩
abbrev main_while0b_v61 : Ref sig .tc := ⟨.hbm, 52, rfl⟩
abbrev main_while0b_cst_20 : Ref sig .tc := ⟨.hbm, 53, rfl⟩
abbrev main_while0b_v62 : Ref sig .tc := ⟨.hbm, 54, rfl⟩
abbrev main_while0b_v63 : Ref sig .tc := ⟨.hbm, 55, rfl⟩
abbrev main_while0b_v64 : Ref sig .tc := ⟨.hbm, 56, rfl⟩
abbrev main_while0b_cst_21 : Ref sig .tc := ⟨.hbm, 57, rfl⟩
abbrev main_while0b_v65 : Ref sig .tc := ⟨.hbm, 58, rfl⟩
abbrev main_while0b_v66 : Ref sig .tc := ⟨.hbm, 59, rfl⟩
abbrev main_while0b_cst_22 : Ref sig .tc := ⟨.hbm, 60, rfl⟩
abbrev main_while0b_call0_v0 : Ref sig .tc := ⟨.hbm, 61, rfl⟩
abbrev main_while0b_call0_v1 : Ref sig .tc := ⟨.hbm, 62, rfl⟩
abbrev main_while0b_v67 : Ref sig .tc := ⟨.hbm, 63, rfl⟩
abbrev main_while0b_v68 : Ref sig .tc := ⟨.hbm, 64, rfl⟩
abbrev main_while0b_v69 : Ref sig .tc := ⟨.hbm, 65, rfl⟩
abbrev main_while0b_v70 : Ref sig .tc := ⟨.hbm, 66, rfl⟩
abbrev main_while0b_cst_23 : Ref sig .tc := ⟨.hbm, 67, rfl⟩
abbrev main_while0b_v71 : Ref sig .tc := ⟨.hbm, 68, rfl⟩
abbrev main_while0b_v72 : Ref sig .tc := ⟨.hbm, 69, rfl⟩
abbrev main_while0b_v73 : Ref sig .tc := ⟨.hbm, 70, rfl⟩
abbrev main_while0b_v74 : Ref sig .tc := ⟨.hbm, 71, rfl⟩
abbrev main_while0b_v75 : Ref sig .tc := ⟨.hbm, 72, rfl⟩
abbrev main_while0b_v76 : Ref sig .tc := ⟨.hbm, 73, rfl⟩
abbrev main_while0b_v77 : Ref sig .tc := ⟨.hbm, 74, rfl⟩
abbrev main_while0b_v78 : Ref sig .tc := ⟨.hbm, 75, rfl⟩
abbrev main_while0b_cst_24 : Ref sig .tc := ⟨.hbm, 76, rfl⟩
abbrev main_while0b_v79 : Ref sig .tc := ⟨.hbm, 77, rfl⟩
abbrev main_while0b_v80 : Ref sig .tc := ⟨.hbm, 78, rfl⟩
abbrev main_while0b_v81 : Ref sig .tc := ⟨.hbm, 79, rfl⟩
abbrev main_while0b_cst_25 : Ref sig .tc := ⟨.hbm, 80, rfl⟩
abbrev main_while0b_v82 : Ref sig .tc := ⟨.hbm, 81, rfl⟩
abbrev main_while0b_v83 : Ref sig .tc := ⟨.hbm, 82, rfl⟩
abbrev main_while0b_cst_26 : Ref sig .tc := ⟨.hbm, 83, rfl⟩
abbrev main_while0b_call1_v0 : Ref sig .tc := ⟨.hbm, 84, rfl⟩
abbrev main_while0b_call1_v1 : Ref sig .tc := ⟨.hbm, 85, rfl⟩
abbrev main_while0b_v84 : Ref sig .tc := ⟨.hbm, 86, rfl⟩
abbrev main_while0b_v85 : Ref sig .tc := ⟨.hbm, 87, rfl⟩
abbrev main_while0b_v86 : Ref sig .tc := ⟨.hbm, 88, rfl⟩
abbrev main_while0b_v87 : Ref sig .tc := ⟨.hbm, 89, rfl⟩
abbrev main_while0b_cst_27 : Ref sig .tc := ⟨.hbm, 90, rfl⟩
abbrev main_while0b_v88 : Ref sig .tc := ⟨.hbm, 91, rfl⟩
abbrev main_while0b_v89 : Ref sig .tc := ⟨.hbm, 92, rfl⟩
abbrev main_while0b_v90 : Ref sig .tc := ⟨.hbm, 93, rfl⟩
abbrev main_while0b_v91 : Ref sig .tc := ⟨.hbm, 94, rfl⟩
abbrev main_while0b_v92 : Ref sig .tc := ⟨.hbm, 95, rfl⟩
abbrev main_while0b_c_28 : Ref sig .tc := ⟨.hbm, 96, rfl⟩
abbrev main_while0b_v93 : Ref sig .tc := ⟨.hbm, 97, rfl⟩
abbrev main_v28 : Ref sig .tc := ⟨.hbm, 98, rfl⟩
abbrev main_v29 : Ref sig .tc := ⟨.hbm, 99, rfl⟩
abbrev main_v30 : Ref sig .tc := ⟨.hbm, 100, rfl⟩
abbrev main_cst_8 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_cst_9 : Ref sig .tc := ⟨.hbm, 105, rfl⟩
abbrev main_v34 : Ref sig .tc := ⟨.hbm, 106, rfl⟩
abbrev main_v35 : Ref sig .tc := ⟨.hbm, 107, rfl⟩
abbrev main_cst_10 : Ref sig .tc := ⟨.hbm, 108, rfl⟩
abbrev main_call2_v0 : Ref sig .tc := ⟨.hbm, 109, rfl⟩
abbrev main_call2_v1 : Ref sig .tc := ⟨.hbm, 110, rfl⟩
abbrev main_v36 : Ref sig .tc := ⟨.hbm, 111, rfl⟩
abbrev main_v37 : Ref sig .tc := ⟨.hbm, 112, rfl⟩
abbrev main_v38 : Ref sig .tc := ⟨.hbm, 113, rfl⟩
abbrev main_v39 : Ref sig .tc := ⟨.hbm, 114, rfl⟩
abbrev main_cst_11 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_cst_12 : Ref sig .tc := ⟨.hbm, 128, rfl⟩
abbrev main_v52 : Ref sig .tc := ⟨.hbm, 129, rfl⟩
abbrev main_v53 : Ref sig .tc := ⟨.hbm, 130, rfl⟩
abbrev main_cst_13 : Ref sig .tc := ⟨.hbm, 131, rfl⟩
abbrev main_call3_v0 : Ref sig .tc := ⟨.hbm, 132, rfl⟩
abbrev main_call3_v1 : Ref sig .tc := ⟨.hbm, 133, rfl⟩
abbrev main_v54 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩

abbrev nD : Nat := 1
abbrev τ : Topo := Topo.v7x

variable {F : FTy → Type} [FloatOps F]

abbrev main_while0_count : Scf.Loop 32 := ⟨0#32, 20#32, 1#32⟩
-- ==== Proof.Sinkhorn.lean ====
/-
  Sinkhorn's iteration over the real numbers, in the two forms that the programs compute.

  The reference works with logarithms: from a matrix `K` and a level `L` it alternates
  `lv j = L - log (∑ i, exp (K i j + lu i))` and `lu i = L - log (∑ j, exp (K i j + lv j))`, and returns the average of
  the rows of `y` weighted by `exp (lu i + K i j + lv j)`. The kernel works with a positive matrix `E` and scaling factors:
  `v j = w / ∑ i, E i j * u i` and `u i = w / ∑ j, E i j * v j`, and returns the average weighted by `E i j * v j`.

  When `E i j = exp (r i + K i j + c j)` for some `r` and `c`, the two iterations agree up to one common positive factor
  (`step_scaled`), and the two weighted averages are equal (`average_eq`). Nothing here mentions a program.
-/
module

public import Mathlib.Analysis.SpecialFunctions.Log.Basic
public import Mathlib.Algebra.Order.BigOperators.Group.Finset

@[expose] public section

noncomputable section

open Finset

namespace Cert.Sinkhorn

variable {ι κ δ : Type} [Fintype ι] [Fintype κ] [Nonempty ι] [Nonempty κ]

/-! ## The two iterations -/

/-- The column step in logarithms. -/
def logV (L : ℝ) (K : ι → κ → ℝ) (lu : ι → ℝ) : κ → ℝ := fun j => L - Real.log (∑ i, Real.exp (K i j + lu i))

/-- The row step in logarithms. -/
def logU (L : ℝ) (K : ι → κ → ℝ) (lv : κ → ℝ) : ι → ℝ := fun i => L - Real.log (∑ j, Real.exp (K i j + lv j))

/-- The row potentials after `k` rounds in logarithms, from zero. -/
def logIter (L : ℝ) (K : ι → κ → ℝ) : ℕ → ι → ℝ
  | 0 => fun _ => 0
  | k + 1 => logU L K (logV L K (logIter L K k))

/-- The transport weight between row `i` and column `j`. -/
def plan (K : ι → κ → ℝ) (lu : ι → ℝ) (lv : κ → ℝ) (i : ι) (j : κ) : ℝ := Real.exp (lu i + K i j + lv j)

/-- The column step with scaling factors. -/
def scaleV (w : ℝ) (E : ι → κ → ℝ) (u : ι → ℝ) : κ → ℝ := fun j => w / ∑ i, E i j * u i

/-- The row step with scaling factors. -/
def scaleU (w : ℝ) (E : ι → κ → ℝ) (v : κ → ℝ) : ι → ℝ := fun i => w / ∑ j, E i j * v j

/-- The row factors after `k` further rounds: the start is the row step at column factors one. -/
def scaleIter (w : ℝ) (E : ι → κ → ℝ) : ℕ → ι → ℝ
  | 0 => fun i => w / ∑ j, E i j
  | k + 1 => scaleU w E (scaleV w E (scaleIter w E k))

/-! ## Positive sums of exponentials -/

/-- A sum of exponentials is positive. -/
theorem sum_exp_pos {α : Type} [Fintype α] [Nonempty α] (f : α → ℝ) : 0 < ∑ a, Real.exp (f a) :=
  Finset.sum_pos (fun a _ => Real.exp_pos (f a)) Finset.univ_nonempty

/-- Shifting the exponents by `m` and adding `m` back changes no logarithm of a sum of exponentials. -/
theorem log_sum_exp_shift {α : Type} [Fintype α] [Nonempty α] (f : α → ℝ) (m : ℝ) :
    Real.log (∑ a, Real.exp (f a - m)) + m = Real.log (∑ a, Real.exp (f a)) := by
  have h : ∑ a, Real.exp (f a - m) = (∑ a, Real.exp (f a)) * Real.exp (-m) := by
    rw [Finset.sum_mul]
    exact Finset.sum_congr rfl fun a _ => by rw [← Real.exp_add, sub_eq_add_neg]
  rw [h, Real.log_mul (sum_exp_pos f).ne' (Real.exp_pos _).ne', Real.log_exp]
  ring

/-- The exponential of the column step. -/
theorem exp_logV (L : ℝ) (K : ι → κ → ℝ) (lu : ι → ℝ) (j : κ) :
    Real.exp (logV L K lu j) = Real.exp L / ∑ i, Real.exp (K i j + lu i) := by
  unfold logV
  rw [Real.exp_sub, Real.exp_log (sum_exp_pos _)]

/-- The exponential of the row step. -/
theorem exp_logU (L : ℝ) (K : ι → κ → ℝ) (lv : κ → ℝ) (i : ι) :
    Real.exp (logU L K lv i) = Real.exp L / ∑ j, Real.exp (K i j + lv j) := by
  unfold logU
  rw [Real.exp_sub, Real.exp_log (sum_exp_pos _)]

/-! ## The two iterations agree up to a common factor -/

section Scaled

variable {L w : ℝ} {K E : ι → κ → ℝ} {r : ι → ℝ} {c : κ → ℝ}

/-- Row factors proportional to `exp (lu - r)` give column factors proportional to `exp (lv - c)`. -/
theorem scaleV_scaled (hw : 0 < w) (hE : ∀ i j, E i j = Real.exp (r i + K i j + c j)) {u lu : ι → ℝ} {a : ℝ} (ha : 0 < a)
    (hu : ∀ i, u i = a * Real.exp (lu i - r i)) :
    ∃ b : ℝ, 0 < b ∧ ∀ j, scaleV w E u j = b * Real.exp (logV L K lu j - c j) := by
  refine ⟨w / (a * Real.exp L), div_pos hw (mul_pos ha (Real.exp_pos L)), fun j => ?_⟩
  have hs : ∑ i, E i j * u i = a * Real.exp (c j) * ∑ i, Real.exp (K i j + lu i) := by
    rw [Finset.mul_sum]
    refine Finset.sum_congr rfl fun i _ => ?_
    rw [hE, hu, show r i + K i j + c j = c j + (K i j + lu i) - (lu i - r i) by ring, Real.exp_sub, Real.exp_add]
    field_simp
  have hp := sum_exp_pos fun i => K i j + lu i
  unfold scaleV
  rw [hs, Real.exp_sub, exp_logV]
  have := (Real.exp_pos L).ne'
  have := (Real.exp_pos (c j)).ne'
  field_simp

/-- Column factors proportional to `exp (lv - c)` give row factors proportional to `exp (lu - r)`. -/
theorem scaleU_scaled (hw : 0 < w) (hE : ∀ i j, E i j = Real.exp (r i + K i j + c j)) {v lv : κ → ℝ} {b : ℝ} (hb : 0 < b)
    (hv : ∀ j, v j = b * Real.exp (lv j - c j)) :
    ∃ a : ℝ, 0 < a ∧ ∀ i, scaleU w E v i = a * Real.exp (logU L K lv i - r i) := by
  refine ⟨w / (b * Real.exp L), div_pos hw (mul_pos hb (Real.exp_pos L)), fun i => ?_⟩
  have hs : ∑ j, E i j * v j = b * Real.exp (r i) * ∑ j, Real.exp (K i j + lv j) := by
    rw [Finset.mul_sum]
    refine Finset.sum_congr rfl fun j _ => ?_
    rw [hE, hv, show r i + K i j + c j = r i + (K i j + lv j) - (lv j - c j) by ring, Real.exp_sub, Real.exp_add]
    field_simp
  have hp := sum_exp_pos fun j => K i j + lv j
  unfold scaleU
  rw [hs, Real.exp_sub, exp_logU]
  have := (Real.exp_pos L).ne'
  have := (Real.exp_pos (r i)).ne'
  field_simp

/-- When the columns of `E` carry the first column potentials, the row factors after `k` rounds are the logarithmic
    iteration's after `k + 1`, up to a common factor. -/
theorem scaleIter_scaled (hw : 0 < w) (hE : ∀ i j, E i j = Real.exp (r i + K i j + c j))
    (hc : ∀ j, c j = logV L K (fun _ => 0) j) (k : ℕ) :
    ∃ a : ℝ, 0 < a ∧ ∀ i, scaleIter w E k i = a * Real.exp (logIter L K (k + 1) i - r i) := by
  induction k with
  | zero =>
    obtain ⟨a, ha, h⟩ := scaleU_scaled (L := L) (v := fun _ => 1) (lv := c) (b := 1) hw hE one_pos
      (fun j => by simp)
    refine ⟨a, ha, fun i => ?_⟩
    have e : logIter L K (0 + 1) = logU L K c := by
      show logU L K (logV L K fun _ => 0) = _
      rw [← funext hc]
    rw [e, ← h i]
    simp [scaleIter, scaleU]
  | succ k ih =>
    obtain ⟨a, ha, h⟩ := ih
    obtain ⟨b, hb, hv⟩ := scaleV_scaled (L := L) hw hE ha h
    obtain ⟨a', ha', hu⟩ := scaleU_scaled (L := L) hw hE hb hv
    exact ⟨a', ha', hu⟩

/-- The averages of `y` over the columns, weighted by `E i j * v j` and by the transport weights, are equal. -/
theorem average_eq (hw : 0 < w) (hE : ∀ i j, E i j = Real.exp (r i + K i j + c j))
    (hc : ∀ j, c j = logV L K (fun _ => 0) j) (k : ℕ) (y : κ → ℝ) (i : ι) :
    (∑ j, E i j * scaleV w E (scaleIter w E k) j * y j) / (∑ j, E i j * scaleV w E (scaleIter w E k) j)
      = (∑ j, plan K (logIter L K (k + 1)) (logV L K (logIter L K (k + 1))) i j * y j)
        / ∑ j, plan K (logIter L K (k + 1)) (logV L K (logIter L K (k + 1))) i j := by
  obtain ⟨a, ha, h⟩ := scaleIter_scaled (L := L) hw hE hc k
  obtain ⟨b, hb, hv⟩ := scaleV_scaled (L := L) hw hE ha h
  set lu := logIter L K (k + 1)
  set lv := logV L K lu
  have hf : 0 < b * Real.exp (r i - lu i) := mul_pos hb (Real.exp_pos _)
  have e : ∀ j, E i j * scaleV w E (scaleIter w E k) j = b * Real.exp (r i - lu i) * plan K lu lv i j := fun j => by
    rw [hE, hv]
    unfold plan
    rw [mul_left_comm, ← Real.exp_add, mul_assoc, ← Real.exp_add]
    congr 2
    ring
  have e1 : ∑ j, E i j * scaleV w E (scaleIter w E k) j * y j
      = b * Real.exp (r i - lu i) * ∑ j, plan K lu lv i j * y j := by
    rw [Finset.mul_sum]
    exact Finset.sum_congr rfl fun j _ => by rw [e j]; ring
  have e2 : ∑ j, E i j * scaleV w E (scaleIter w E k) j = b * Real.exp (r i - lu i) * ∑ j, plan K lu lv i j := by
    rw [Finset.mul_sum]
    exact Finset.sum_congr rfl fun j _ => e j
  rw [e1, e2, mul_div_mul_left _ _ hf.ne']

end Scaled

/-! ## Row sums stay away from zero -/

/-- After a row step and a column step every row of the transport weights sums to at least `exp L` over the number of rows. -/
theorem le_rowSum (L : ℝ) (K : ι → κ → ℝ) (lv₀ : κ → ℝ) (i : ι) :
    Real.exp L / (Fintype.card ι : ℝ) ≤ ∑ j, plan K (logU L K lv₀) (logV L K (logU L K lv₀)) i j := by
  set lu := logU L K lv₀
  have hn : (0 : ℝ) < Fintype.card ι := by exact_mod_cast Fintype.card_pos
  have hL := Real.exp_pos L
  -- every row of the weights with the old column potentials sums to `exp L`
  have hrow : ∀ i, ∑ j, Real.exp (lu i + (K i j + lv₀ j)) = Real.exp L := fun i => by
    have hp := sum_exp_pos fun j => K i j + lv₀ j
    have : ∑ j, Real.exp (lu i + (K i j + lv₀ j)) = Real.exp (lu i) * ∑ j, Real.exp (K i j + lv₀ j) := by
      rw [Finset.mul_sum]
      exact Finset.sum_congr rfl fun j _ => Real.exp_add _ _
    rw [this, exp_logU]
    field_simp
  -- so no column potential falls by more than the factor `1 / n`
  have hcol : ∀ j, Real.exp (lv₀ j) / Fintype.card ι ≤ Real.exp (logV L K lu j) := fun j => by
    have hp := sum_exp_pos fun i => K i j + lu i
    have htot : Real.exp (lv₀ j) * ∑ i, Real.exp (K i j + lu i) ≤ Fintype.card ι * Real.exp L := by
      have h1 : Real.exp (lv₀ j) * ∑ i, Real.exp (K i j + lu i) = ∑ i, Real.exp (lu i + (K i j + lv₀ j)) := by
        rw [Finset.mul_sum]
        exact Finset.sum_congr rfl fun i _ => by rw [← Real.exp_add]; congr 1; ring
      rw [h1]
      calc ∑ i, Real.exp (lu i + (K i j + lv₀ j)) ≤ ∑ i : ι, Real.exp L :=
            Finset.sum_le_sum fun i _ => by
              rw [← hrow i]
              exact Finset.single_le_sum (f := fun j => Real.exp (lu i + (K i j + lv₀ j)))
                (fun j _ => (Real.exp_pos _).le) (Finset.mem_univ j)
        _ = Fintype.card ι * Real.exp L := by simp
    rw [exp_logV, div_le_div_iff₀ hn hp]
    linarith [htot]
  calc Real.exp L / (Fintype.card ι : ℝ) = (∑ j, Real.exp (lu i + (K i j + lv₀ j))) / Fintype.card ι := by rw [hrow]
    _ = ∑ j, Real.exp (lu i + K i j) * (Real.exp (lv₀ j) / Fintype.card ι) := by
        rw [div_eq_mul_inv, Finset.sum_mul]
        exact Finset.sum_congr rfl fun j _ => by rw [← add_assoc, Real.exp_add]; ring
    _ ≤ ∑ j, plan K lu (logV L K lu) i j :=
        Finset.sum_le_sum fun j _ => by
          unfold plan
          rw [Real.exp_add (lu i + K i j)]
          exact mul_le_mul_of_nonneg_left (hcol j) (Real.exp_pos _).le

/-- An exponential at `-7` or above is at least `2 ^ (-14)`. -/
theorem le_exp_of_neg_seven_le {L : ℝ} (h : -7 ≤ L) : (1 / 2 : ℝ) ^ 14 ≤ Real.exp L := by
  have h1 : (1 / 2 : ℝ) ≤ Real.exp (-(1 / 2)) := by linarith [Real.add_one_le_exp (-(1 / 2) : ℝ)]
  calc (1 / 2 : ℝ) ^ 14 ≤ Real.exp (-(1 / 2)) ^ 14 := pow_le_pow_left₀ (by norm_num) h1 14
    _ = Real.exp (-7) := by rw [← Real.exp_nat_mul]; norm_num
    _ ≤ Real.exp L := Real.exp_le_exp.mpr h

end Cert.Sinkhorn

end
-- ==== Proof.Reals.lean ====
module

public import Idealize.ShloMosaic.Lib.IdealHost
public import Mathlib.Analysis.SpecialFunctions.Log.Basic
public import Mathlib.Algebra.Order.BigOperators.Group.Finset

/-! Arithmetic of the extended reals on real entries: every operation the two programs use, applied to
embedded reals, is the embedded real operation. -/

@[expose] public section

noncomputable section

open Idealize.ShloMosaic

namespace Cert.Reals

/-- A finite sum of embedded reals is the embedded sum. -/
theorem sum_coe {α : Type*} (s : Finset α) (f : α → ℝ) :
    ∑ a ∈ s, ((f a : ℝ) : EReal) = ((∑ a ∈ s, f a : ℝ) : EReal) := by
  classical
  induction s using Finset.induction_on with
  | empty => simp
  | insert a s ha ih => rw [Finset.sum_insert ha, Finset.sum_insert ha, ih, EReal.coe_add]

/-- The larger of two embedded reals is the embedded larger one. -/
theorem max_coe (a b : ℝ) : max (a : EReal) (b : EReal) = ((max a b : ℝ) : EReal) :=
  (Monotone.map_max (fun _ _ h => EReal.coe_le_coe_iff.mpr h : Monotone ((↑) : ℝ → EReal))).symm

/-- The smaller of two embedded reals is the embedded smaller one. -/
theorem min_coe (a b : ℝ) : min (a : EReal) (b : EReal) = ((min a b : ℝ) : EReal) :=
  (Monotone.map_min (fun _ _ h => EReal.coe_le_coe_iff.mpr h : Monotone ((↑) : ℝ → EReal))).symm

/-- The maximum of a nonempty finite family of embedded reals, started from minus infinity, is a real. -/
theorem exists_fold_max {α : Type*} [Fintype α] [Nonempty α] (f : α → ℝ) :
    ∃ m : ℝ, Finset.univ.fold max (⊥ : EReal) (fun a => (f a : EReal)) = (m : EReal) := by
  classical
  have key : ∀ s : Finset α, s.fold max (⊥ : EReal) (fun a => (f a : EReal)) = ⊥ ∧ s = ∅ ∨
      ∃ m : ℝ, s.fold max (⊥ : EReal) (fun a => (f a : EReal)) = (m : EReal) := by
    intro s
    induction s using Finset.induction_on with
    | empty => exact Or.inl ⟨rfl, rfl⟩
    | insert a s ha ih =>
      right
      rw [Finset.fold_insert ha]
      rcases ih with ⟨h, -⟩ | ⟨m, h⟩
      · exact ⟨f a, by rw [h]; exact max_eq_left bot_le⟩
      · exact ⟨max (f a) m, by rw [h, max_coe]⟩
  rcases key Finset.univ with ⟨-, h⟩ | h
  · exact absurd h (Finset.univ_nonempty (α := α)).ne_empty
  · exact h

/-- The minimum of a nonempty finite family of embedded reals, started from plus infinity, is a real. -/
theorem exists_fold_min {α : Type*} [Fintype α] [Nonempty α] (f : α → ℝ) :
    ∃ m : ℝ, Finset.univ.fold min (⊤ : EReal) (fun a => (f a : EReal)) = (m : EReal) := by
  classical
  have key : ∀ s : Finset α, s.fold min (⊤ : EReal) (fun a => (f a : EReal)) = ⊤ ∧ s = ∅ ∨
      ∃ m : ℝ, s.fold min (⊤ : EReal) (fun a => (f a : EReal)) = (m : EReal) := by
    intro s
    induction s using Finset.induction_on with
    | empty => exact Or.inl ⟨rfl, rfl⟩
    | insert a s ha ih =>
      right
      rw [Finset.fold_insert ha]
      rcases ih with ⟨h, -⟩ | ⟨m, h⟩
      · exact ⟨f a, by rw [h]; exact min_eq_left le_top⟩
      · exact ⟨min (f a) m, by rw [h, min_coe]⟩
  rcases key Finset.univ with ⟨-, h⟩ | h
  · exact absurd h (Finset.univ_nonempty (α := α)).ne_empty
  · exact h

/-- The exponential of an embedded real. -/
theorem exp_coe (r : ℝ) : Ideal.exp (r : EReal) = ((Real.exp r : ℝ) : EReal) := rfl

/-- The logarithm of an embedded positive real. -/
theorem log_coe {r : ℝ} (h : 0 < r) : Ideal.log (r : EReal) = ((Real.log r : ℝ) : EReal) := by
  show (if r ≤ 0 then (⊥ : EReal) else (Real.log r : EReal)) = _
  rw [if_neg (not_le.mpr h)]

/-- The quotient of embedded reals, for a divisor that is not zero. -/
theorem div_coe_coe (a : ℝ) {b : ℝ} (h : b ≠ 0) :
    Ideal.div (a : EReal) (b : EReal) = ((a / b : ℝ) : EReal) := by
  rw [Ideal.div_coe h, ← EReal.coe_mul, mul_one_div]

/-- The reciprocal of an extended real that is not zero is real (zero at the infinities), and dividing by
it multiplies by that real. -/
theorem exists_inv {e : EReal} (h : e ≠ 0) :
    ∃ ρ : ℝ, ∀ x : EReal, Ideal.div x e = x * (ρ : EReal) := by
  induction e using EReal.rec with
  | bot => exact ⟨0, fun x => by simp [Ideal.div]⟩
  | top => exact ⟨0, fun x => by simp [Ideal.div]⟩
  | coe r =>
    have hr : r ≠ 0 := by exact_mod_cast h
    exact ⟨1 / r, fun x => Ideal.div_coe hr x⟩

/-- An extended real whose absolute value is below plus infinity is a real. -/
theorem exists_of_abs_lt {x : EReal} (h : max x (-x) < ⊤) : ∃ r : ℝ, x = (r : EReal) := by
  induction x using EReal.rec with
  | bot => simp at h
  | top => simp at h
  | coe r => exact ⟨r, rfl⟩

/-- The absolute value of an embedded real is below plus infinity. -/
theorem abs_lt_top (r : ℝ) : max (r : EReal) (-(r : EReal)) < ⊤ := by
  rw [← EReal.coe_neg, max_coe]; exact EReal.coe_lt_top _

/-! ## The constants of the two programs -/

/-- The word `0xC0DDCE9E`, the logarithm of 1/1024 as rounded to a 32-bit float. -/
def logW : ℝ := -(14536350 / 2097152)

/-- The programs' constant for the logarithm of the weights is `logW`. -/
theorem ofBits_logW : Ideal.ofBits .f32 0xC0DDCE9E#32 = (logW : EReal) := by
  simp [Ideal.ofBits, Ideal.ieee, logW, -EReal.coe_mul, -EReal.coe_neg]; norm_num

/-- The rounded logarithm is at least minus seven. -/
theorem neg_seven_le_logW : -7 ≤ logW := by unfold logW; norm_num

/-- The word `0x3A800000` is 1/1024. -/
theorem ofBits_w : Ideal.ofBits .f32 0x3A800000#32 = ((1 / 1024 : ℝ) : EReal) := by
  simp [Ideal.ofBits, Ideal.ieee, -EReal.coe_mul]; norm_num

/-- The word `0x2B8CBCCC`, the lower bound of the reference's divisor. -/
def tiny : ℝ := 9223372 / 9223372036854775808

/-- The reference's cut-off is `tiny`. -/
theorem ofBits_tiny : Ideal.ofBits .f32 0x2B8CBCCC#32 = (tiny : EReal) := by
  simp [Ideal.ofBits, Ideal.ieee, tiny, -EReal.coe_mul]; norm_num

/-- The lower bound of the divisor is below 2⁻²⁴. -/
theorem tiny_le : tiny ≤ (1 / 2) ^ 14 / 1024 := by unfold tiny; norm_num

/-- The word `0x40000000` is two. -/
theorem ofBits_two : Ideal.ofBits .f32 0x40000000#32 = ((2 : ℝ) : EReal) := by
  simp [Ideal.ofBits, Ideal.ieee, -EReal.coe_mul]; norm_num

/-- The word `0xFF800000` is minus infinity. -/
theorem ofBits_neg_inf : Ideal.ofBits .f32 0xFF800000#32 = ⊥ := by
  simp [Ideal.ofBits, Ideal.ieee]

/-- The word `0x7F800000` is plus infinity. -/
theorem ofBits_pos_inf : Ideal.ofBits .f32 0x7F800000#32 = ⊤ := by
  simp [Ideal.ofBits, Ideal.ieee]

end Cert.Reals
-- ==== Proof.Block.lean ====
/-
  What the kernel computes for one batch entry, over the real numbers.

  The loads of one batch entry are two slabs of real points `X` and `Y` and the real reciprocal `ρ` of the regularisation.
  `block_value` says that the stored slab is the average of the rows of `Y` under the plan of twenty rounds of the
  logarithmic iteration, for the matrix `gibbs ρ X Y` shifted by any constant.
-/
module

public import proofs.«01_k».proof.Proof.Gen.KernelIdeal.Value
public import proofs.«01_k».proof.Proof.Sinkhorn
public import proofs.«01_k».proof.Proof.Reals
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Cert.Sinkhorn Cert.Reals

namespace Cert.Spec

/-- The squared distance of point `i` of `X` and point `j` of `Y`, cut off below at zero. -/
def cost {n k : ℕ} (X Y : Fin n → Fin k → ℝ) (i j : Fin n) : ℝ :=
  max ((∑ d, X i d * X i d) + (∑ d, Y j d * Y j d) - 2 * ∑ d, X i d * Y j d) 0

/-- The exponents of the Gibbs kernel: minus the cost, times the reciprocal `ρ` of the regularisation. -/
def gibbs {n k : ℕ} (ρ : ℝ) (X Y : Fin n → Fin k → ℝ) (i j : Fin n) : ℝ := cost X Y i j * (0 - ρ)

/-- The barycentric projection: coordinate `d` of the average of the points `Y` under row `i` of the plan after twenty
rounds of the logarithmic iteration for the exponents `K` and a half round for the columns. -/
def project {n k : ℕ} (K : Fin n → Fin n → ℝ) (Y : Fin n → Fin k → ℝ) (i : Fin n) (d : Fin k) : ℝ :=
  (∑ j, plan K (logIter logW K 20) (logV logW K (logIter logW K 20)) i j * Y j d) /
    ∑ j, plan K (logIter logW K 20) (logV logW K (logIter logW K 20)) i j

end Cert.Spec

namespace Cert.KernelIdeal.Gen

open Cert.Spec

/-! ## Positivity of the scaling iteration -/

section
variable {ι κ : Type} [Fintype ι] [Fintype κ] [Nonempty ι] [Nonempty κ]
  {w : ℝ} {E : ι → κ → ℝ} (hw : 0 < w) (hE : ∀ i j, 0 < E i j)
include hw hE

/-- A weighted column sum is positive. -/
theorem colSum_pos {u : ι → ℝ} (hu : ∀ i, 0 < u i) (j : κ) : 0 < ∑ i, E i j * u i :=
  Finset.sum_pos (fun i _ => mul_pos (hE i j) (hu i)) Finset.univ_nonempty

/-- A weighted row sum is positive. -/
theorem rowSum_pos {v : κ → ℝ} (hv : ∀ j, 0 < v j) (i : ι) : 0 < ∑ j, E i j * v j :=
  Finset.sum_pos (fun j _ => mul_pos (hE i j) (hv j)) Finset.univ_nonempty

/-- The column scaling of positive row factors is positive. -/
theorem scaleV_pos {u : ι → ℝ} (hu : ∀ i, 0 < u i) (j : κ) : 0 < scaleV w E u j :=
  div_pos hw (colSum_pos hw hE hu j)

/-- The row scaling of positive column factors is positive. -/
theorem scaleU_pos {v : κ → ℝ} (hv : ∀ j, 0 < v j) (i : ι) : 0 < scaleU w E v i :=
  div_pos hw (rowSum_pos hw hE hv i)

/-- Every row factor of the iteration is positive. -/
theorem scaleIter_pos (k : ℕ) (i : ι) : 0 < scaleIter w E k i := by
  cases k with
  | zero => exact div_pos hw (Finset.sum_pos (fun j _ => hE i j) Finset.univ_nonempty)
  | succ k => exact scaleU_pos hw hE (scaleV_pos hw hE (scaleIter_pos k)) i

end

/-! ## The payloads on real entries -/

/-- The exponents that the kernel forms of two slabs of real points. -/
theorem pay7_entry {ρ : ℝ} {X Y : Fin 1024 → Fin 256 → ℝ} {x y : Vec Ideal S1x1024x256 .f32}
    (hx : ∀ i d, x (ix3 0 i d) = (X i d : EReal)) (hy : ∀ i d, y (ix3 0 i d) = (Y i d : EReal)) (i j : Fin 1024) :
    k0_pay7 (F := Ideal) (ρ : EReal) x y (ix2 i j) = (gibbs ρ X Y i j : EReal) := by
  unfold k0_pay7
  clean_types
  pointwise
  simp only [hx, hy, ofBits_two, ← EReal.coe_mul, sum_coe, ← EReal.coe_add, ← EReal.coe_sub, ← EReal.coe_zero, max_coe]
  rfl

/-- The largest exponent of a column is some real. -/
theorem pay8_entry {ρ : ℝ} {X Y : Fin 1024 → Fin 256 → ℝ} {x y : Vec Ideal S1x1024x256 .f32}
    (hx : ∀ i d, x (ix3 0 i d) = (X i d : EReal)) (hy : ∀ i d, y (ix3 0 i d) = (Y i d : EReal)) :
    ∃ m : Fin 1024 → ℝ, ∀ j, k0_pay8 (F := Ideal) (ρ : EReal) x y (ix2 0 j) = (m j : EReal) := by
  have h : ∀ j : Fin 1024, ∃ m : ℝ, k0_pay8 (F := Ideal) (ρ : EReal) x y (ix2 0 j) = (m : EReal) := by
    intro j
    unfold k0_pay8
    pointwise
    simp only [pay7_entry hx hy, ofBits_neg_inf]
    exact exists_fold_max _
  exact ⟨fun j => (h j).choose, fun j => (h j).choose_spec⟩

/-- The column sum of the exponentials, relative to the largest exponent. -/
theorem pay9_entry {ρ : ℝ} {X Y : Fin 1024 → Fin 256 → ℝ} {x y : Vec Ideal S1x1024x256 .f32}
    (hx : ∀ i d, x (ix3 0 i d) = (X i d : EReal)) (hy : ∀ i d, y (ix3 0 i d) = (Y i d : EReal)) {m : Fin 1024 → ℝ}
    (hm : ∀ j, k0_pay8 (F := Ideal) (ρ : EReal) x y (ix2 0 j) = (m j : EReal)) (j : Fin 1024) :
    k0_pay9 (F := Ideal) (ρ : EReal) x y (ix2 0 j) = ((∑ i, Real.exp (gibbs ρ X Y i j - m j) : ℝ) : EReal) := by
  unfold k0_pay9
  pointwise
  simp only [pay7_entry hx hy, hm, ← EReal.coe_sub, exp_coe, sum_coe]

/-- The row of the rounded logarithm of 1/1024. -/
theorem pay10_entry (j : Fin 1024) : k0_pay10 (F := Ideal) (ix2 0 j) = (logW : EReal) := by
  unfold k0_pay10
  pointwise
  exact ofBits_logW

/-- The stored matrix is `exp (r i + K i j + c j)`, where `c` is the first half round for the columns of the exponents
`K`; the exponents are the kernel's own up to any constant `κ`. -/
theorem pay11_entry {ρ : ℝ} {X Y : Fin 1024 → Fin 256 → ℝ} {x y : Vec Ideal S1x1024x256 .f32}
    (hx : ∀ i d, x (ix3 0 i d) = (X i d : EReal)) (hy : ∀ i d, y (ix3 0 i d) = (Y i d : EReal)) (κ : ℝ)
    {K : Fin 1024 → Fin 1024 → ℝ} (hK : ∀ i j, K i j = gibbs ρ X Y i j + κ) :
    ∃ r : Fin 1024 → ℝ, ∀ i j,
      k0_pay11 (k0_pay7 (F := Ideal) (ρ : EReal) x y) (k0_pay8 (ρ : EReal) x y) (k0_pay9 (ρ : EReal) x y) k0_pay10 (ix2 i j)
        = ((Real.exp (r i + K i j + logV logW K (fun _ => 0) j) : ℝ) : EReal) := by
  obtain ⟨m, hm⟩ := pay8_entry (ρ := ρ) hx hy
  have hs : ∀ j, 0 < ∑ i, Real.exp (gibbs ρ X Y i j - m j) :=
    fun j => Finset.sum_pos (fun i _ => Real.exp_pos _) Finset.univ_nonempty
  have hc : ∀ j, logW - m j - Real.log (∑ i, Real.exp (gibbs ρ X Y i j - m j)) = logV logW K (fun _ => 0) j + κ := by
    intro j
    have h1 := log_sum_exp_shift (fun i => gibbs ρ X Y i j) (m j)
    have h2 := log_sum_exp_shift (fun i => K i j + 0) κ
    have e : ∀ i, K i j + 0 - κ = gibbs ρ X Y i j := fun i => by rw [hK]; ring
    simp only [e] at h2
    unfold logV
    linarith
  have h : ∀ i : Fin 1024, ∃ r : ℝ, ∀ j : Fin 1024,
      k0_pay11 (k0_pay7 (F := Ideal) (ρ : EReal) x y) (k0_pay8 (ρ : EReal) x y) (k0_pay9 (ρ : EReal) x y) k0_pay10 (ix2 i j)
        = ((Real.exp (r + K i j + logV logW K (fun _ => 0) j) : ℝ) : EReal) := by
    intro i
    obtain ⟨M, hM⟩ := exists_fold_max (fun j : Fin 1024 => gibbs ρ X Y i j
      + (logW - m j - Real.log (∑ i, Real.exp (gibbs ρ X Y i j - m j))))
    refine ⟨-M, fun j => ?_⟩
    unfold k0_pay11
    pointwise
    simp only [pay7_entry hx hy, hm, pay9_entry hx hy hm, pay10_entry, ofBits_neg_inf, log_coe (hs _), ← EReal.coe_sub,
      ← EReal.coe_add] at hM ⊢
    rw [hM, ← EReal.coe_sub, exp_coe, hc, hK]
    congr 2
    ring
  exact ⟨fun i => (h i).choose, fun i => (h i).choose_spec⟩

/-- The slab that the kernel keeps for the loop is the matrix. -/
theorem pay12_entry (a : FVec Ideal S1024x1024 .f32) (m s l : FVec Ideal S1x1024 .f32) (i j : Fin 1024) :
    k0_pay12 a m s l (ix3 0 i j) = k0_pay11 a m s l (ix2 i j) := by
  unfold k0_pay12
  pointwise

/-- The first row factors: 1/1024 over the row sums. -/
theorem pay13_entry {a : FVec Ideal S1024x1024 .f32} {m s l : FVec Ideal S1x1024 .f32} {E : Fin 1024 → Fin 1024 → ℝ}
    (hE : ∀ i j, 0 < E i j) (h : ∀ i j, k0_pay11 a m s l (ix2 i j) = (E i j : EReal)) (i : Fin 1024) :
    k0_pay13 a m s l (ix2 i 0) = (scaleIter (1 / 1024) E 0 i : EReal) := by
  unfold k0_pay13
  pointwise
  simp only [h, sum_coe, ofBits_w]
  rw [div_coe_coe _ (Finset.sum_pos (fun j _ => hE i j) Finset.univ_nonempty).ne']
  rfl

/-- One trip of the loop: the column factors of the row factors, then the row factors of those. -/
theorem pay14_entry {p : Vec Ideal S1x1024x1024 .f32} {u : FVec Ideal S1024x1 .f32} {E : Fin 1024 → Fin 1024 → ℝ}
    {U : Fin 1024 → ℝ} (hE : ∀ i j, 0 < E i j) (hU : ∀ i, 0 < U i) (hp : ∀ i j, p (ix3 0 i j) = (E i j : EReal))
    (hu : ∀ i, u (ix2 i 0) = (U i : EReal)) (i : Fin 1024) :
    k0_pay14 u p p (ix2 i 0) = (scaleU (1 / 1024) E (scaleV (1 / 1024) E U) i : EReal) := by
  have hw : (0 : ℝ) < 1 / 1024 := by norm_num
  unfold k0_pay14
  pointwise
  simp only [hp, hu, ← EReal.coe_mul, sum_coe, ofBits_w, div_coe_coe _ (colSum_pos hw hE hU _).ne']
  exact div_coe_coe _ (rowSum_pos hw hE (scaleV_pos hw hE hU) i).ne'

/-- The output slab of given row factors: the average of the rows of `Y` weighted by the scaled matrix. -/
theorem pay2_entry {p : Vec Ideal S1x1024x1024 .f32} {u : FVec Ideal S1024x1 .f32} {y : Vec Ideal S1x1024x256 .f32}
    {E : Fin 1024 → Fin 1024 → ℝ} {U : Fin 1024 → ℝ} {Y : Fin 1024 → Fin 256 → ℝ} (hE : ∀ i j, 0 < E i j)
    (hU : ∀ i, 0 < U i) (hp : ∀ i j, p (ix3 0 i j) = (E i j : EReal)) (hu : ∀ i, u (ix2 i 0) = (U i : EReal))
    (hy : ∀ i d, y (ix3 0 i d) = (Y i d : EReal)) (i : Fin 1024) (d : Fin 256) :
    k0_pay2 u p p y (ix3 0 i d)
      = (((∑ j, E i j * scaleV (1 / 1024) E U j * Y j d) / ∑ j, E i j * scaleV (1 / 1024) E U j : ℝ) : EReal) := by
  have hw : (0 : ℝ) < 1 / 1024 := by norm_num
  unfold k0_pay2
  pointwise
  simp only [hp, hu, hy, ← EReal.coe_mul, sum_coe, ofBits_w, div_coe_coe _ (colSum_pos hw hE hU _).ne']
  exact div_coe_coe _ (rowSum_pos hw hE (scaleV_pos hw hE hU) i).ne'

/-! ## One batch entry -/

/-- The slab kept for the loop. -/
def slabK (v0 : EReal) (x y : Vec Ideal S1x1024x256 .f32) : Vec Ideal S1x1024x1024 .f32 :=
  k0_pay12 (k0_pay7 (F := Ideal) v0 x y) (k0_pay8 v0 x y) (k0_pay9 v0 x y) k0_pay10

/-- The row factors after `k` trips of the loop. -/
def rowFactors (v0 : EReal) (x y : Vec Ideal S1x1024x256 .f32) : ℕ → FVec Ideal S1024x1 .f32
  | 0 => k0_pay13 (k0_pay7 (F := Ideal) v0 x y) (k0_pay8 v0 x y) (k0_pay9 v0 x y) k0_pay10
  | k + 1 => k0_pay14 (rowFactors v0 x y k) (slabK v0 x y) (slabK v0 x y)

/-- The slab that the kernel stores for one batch entry. -/
def slabOut (v0 : EReal) (x y : Vec Ideal S1x1024x256 .f32) : FVec Ideal S1x1024x256 .f32 :=
  k0_pay2 (rowFactors v0 x y 19) (slabK v0 x y) (slabK v0 x y) y

/-- The stored slab is the barycentric projection for the exponents of the two slabs of points, shifted by any constant. -/
theorem block_value {ρ : ℝ} {X Y : Fin 1024 → Fin 256 → ℝ} {x y : Vec Ideal S1x1024x256 .f32}
    (hx : ∀ i d, x (ix3 0 i d) = (X i d : EReal)) (hy : ∀ i d, y (ix3 0 i d) = (Y i d : EReal)) (κ : ℝ)
    (i : Fin 1024) (d : Fin 256) :
    slabOut (ρ : EReal) x y (ix3 0 i d) = (project (fun i j => gibbs ρ X Y i j + κ) Y i d : EReal) := by
  obtain ⟨r, hr⟩ := pay11_entry (ρ := ρ) hx hy κ (K := fun i j => gibbs ρ X Y i j + κ) (fun _ _ => rfl)
  obtain ⟨E, hEdef⟩ : ∃ E : Fin 1024 → Fin 1024 → ℝ, ∀ i j, E i j = Real.exp (r i + (gibbs ρ X Y i j + κ)
      + logV logW (fun i j => gibbs ρ X Y i j + κ) (fun _ => 0) j) := ⟨_, fun _ _ => rfl⟩
  have hE : ∀ i j, 0 < E i j := fun i j => by rw [hEdef]; exact Real.exp_pos _
  have hw : (0 : ℝ) < 1 / 1024 := by norm_num
  have h11 : ∀ i j, k0_pay11 (k0_pay7 (F := Ideal) (ρ : EReal) x y) (k0_pay8 (ρ : EReal) x y) (k0_pay9 (ρ : EReal) x y)
      k0_pay10 (ix2 i j) = (E i j : EReal) := fun i j => by rw [hr, hEdef]
  have hp : ∀ i j, slabK (ρ : EReal) x y (ix3 0 i j) = (E i j : EReal) := fun i j => by
    unfold slabK; rw [pay12_entry, h11]
  have hu : ∀ k i, rowFactors (ρ : EReal) x y k (ix2 i 0) = (scaleIter (1 / 1024) E k i : EReal) := by
    intro k
    induction k with
    | zero => exact fun i => pay13_entry hE h11 i
    | succ k ih => exact fun i => pay14_entry hE (scaleIter_pos hw hE k) hp ih i
  unfold slabOut
  rw [pay2_entry hE (scaleIter_pos hw hE 19) hp (hu 19) hy]
  congr 1
  exact average_eq hw hEdef (fun _ => rfl) 19 (fun j => Y j d) i

end Cert.KernelIdeal.Gen
-- ==== Proof.Trip.lean ====
/-
  What one grid point leaves in the output's staging buffer: for each of its two batch entries, the slab `slabOut` of the
  loaded slabs. The scratch buffer holds the two matrices as slabs 0 and 1, and every load of it reads back the slab that
  was stored; the nineteen trips of the loop carry the row factors of both entries.
-/
module

public import proofs.«01_k».proof.Proof.Block
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.KernelIdeal.Gen

/-! ## Two slabs of the scratch buffer and of the output block -/

/-- Slab 0 of the scratch buffer. -/
abbrev rectK0 : Rect S2x1024x1024 := Rect.unit ![0, 0, 0] ![1, 1024, 1024] inb_S2x1024x1024_S1x1024x1024_0_0_0
/-- Slab 1 of the scratch buffer. -/
abbrev rectK1 : Rect S2x1024x1024 := Rect.unit ![1, 0, 0] ![1, 1024, 1024] inb_S2x1024x1024_S1x1024x1024_1_0_0
/-- Slab 0 of a block of points. -/
abbrev rectP0 : Rect S2x1024x256 := Rect.unit ![0, 0, 0] ![1, 1024, 256] inb_S2x1024x256_S1x1024x256_0_0_0
/-- Slab 1 of a block of points. -/
abbrev rectP1 : Rect S2x1024x256 := Rect.unit ![1, 0, 0] ![1, 1024, 256] inb_S2x1024x256_S1x1024x256_1_0_0

/-- The scratch buffer after the two stores. -/
abbrev scratchOf (arg5 : Memref sig .tc .vmem S2x1024x1024 .f32) (K0 K1 : Vec Ideal S1x1024x1024 .f32) :
    BufTy.Contents (Elt Ideal) arg5.view.ty :=
  arg5.view.writes (Elt Ideal) arg5.view.junk [⟨rectK1, K1⟩, ⟨rectK0, K0⟩]

/-- An index of slab 0 is not in slab 1. -/
theorem rectK0_not_mem (x : rectK0.shape.Idx) : rectK0.emb x ∉ rectK1.set := by
  rw [Rect.mem_set_unit]
  intro h
  have h0 := (h 0).1
  have hx : (x 0 : Nat) < 1 := (x 0).isLt
  have e : (rectK0.emb x 0 : Nat) = 0 + 1 * (x 0 : Nat) := rfl
  rw [e] at h0
  have : (![1, 0, 0] : Fin 3 → Nat) 0 = 1 := rfl
  omega

/-- An index of slab 0 of a block of points is not in slab 1. -/
theorem rectP0_not_mem (x : rectP0.shape.Idx) : rectP0.emb x ∉ rectP1.set := by
  rw [Rect.mem_set_unit]
  intro h
  have h0 := (h 0).1
  have hx : (x 0 : Nat) < 1 := (x 0).isLt
  have e : (rectP0.emb x 0 : Nat) = 0 + 1 * (x 0 : Nat) := rfl
  rw [e] at h0
  have : (![1, 0, 0] : Fin 3 → Nat) 0 = 1 := rfl
  omega

/-- A load of slab 0 of the scratch buffer reads the first stored matrix. -/
theorem readAt_scratch0 (arg5 : Memref sig .tc .vmem S2x1024x1024 .f32) (K0 K1 : Vec Ideal S1x1024x1024 .f32) :
    arg5.view.readAt (Elt Ideal) rectK0.toLoadRect (scratchOf arg5 K0 K1) = K0 := by
  funext x
  refine (View.read_writes_apply_eq_canon arg5.view _ (rectK0.emb x) _
    ⟨⟨rectK0, K0⟩, List.mem_cons_of_mem _ (List.mem_singleton_self _), rectK0.idx_mem x⟩).trans ?_
  exact (View.canon_cons_of_not_mem (Val := Elt Ideal) (e := .f32) ⟨rectK1, K1⟩ [⟨rectK0, K0⟩] (rectK0_not_mem x)).trans
    (View.canon_cons_emb rectK0 K0 [] x)

/-- A load of slab 1 of the scratch buffer reads the second stored matrix. -/
theorem readAt_scratch1 (arg5 : Memref sig .tc .vmem S2x1024x1024 .f32) (K0 K1 : Vec Ideal S1x1024x1024 .f32) :
    arg5.view.readAt (Elt Ideal) rectK1.toLoadRect (scratchOf arg5 K0 K1) = K1 := by
  funext x
  refine (View.read_writes_apply_eq_canon arg5.view _ (rectK1.emb x) _
    ⟨⟨rectK1, K1⟩, List.mem_cons_self, rectK1.idx_mem x⟩).trans ?_
  exact View.canon_cons_emb rectK1 K1 _ x

/-! ## The loop -/

/-- The nineteen trips carry the row factors of both batch entries. -/
theorem state_eq (c : Dev nD) (i : grid0.Coords) (arg1 : Memref sig .tc .vmem S2x1024x256 .f32) (harg1 : arg1.IsWhole)
    (arg2 : Memref sig .tc .vmem S2x1024x256 .f32) (harg2 : arg2.IsWhole) (arg3 : Memref sig .tc .smem S1x1 .f32)
    (harg3 : arg3.IsWhole) (arg4 : Memref sig .tc .vmem S2x1024x256 .f32) (harg4 : arg4.IsWhole)
    (arg5 : Memref sig .tc .vmem S2x1024x1024 .f32) (harg5 : arg5.IsWhole) (w : FVec Ideal S1024x1 .f32)
    (a : FVec Ideal S1024x1024 .f32) (m s l : FVec Ideal S1x1024 .f32) (v0 : EReal)
    (X0 Y0 X1 Y1 : Vec Ideal S1x1024x256 .f32) (k : ℕ) (hk : k ≤ 19) :
    st_k0_t1 Variants.none c none i arg1 harg1 arg2 harg2 arg3 harg3 arg4 harg4 arg5 harg5 w a m s l
      (scratchOf arg5 (slabK v0 X0 Y0) (slabK v0 X1 Y1)) (rowFactors v0 X0 Y0 0, rowFactors v0 X1 Y1 0) k
      = (rowFactors v0 X0 Y0 k, rowFactors v0 X1 Y1 k) := by
  induction k with
  | zero => exact st_k0_t1_zero ..
  | succ k ih =>
    have ht : k0_t1_loop.trips = 19 := by decide
    refine (st_k0_t1_succ Variants.none c none i arg1 harg1 arg2 harg2 arg3 harg3 arg4 harg4 arg5 harg5 w a m s l _ _
      ⟨k, by omega⟩).trans ?_
    dsimp only
    rw [ih (by omega)]
    unfold tripR_k0_t1 trip_k0_t1
    dsimp only
    sl_unfold_words
    rw [readAt_scratch0, readAt_scratch1]
    rfl

/-! ## The output block -/

/-- What one grid point leaves in the output block: slab by slab, `slabOut` of the loaded slabs. -/
theorem out_eq (c : Dev nD) (i : grid0.Coords) (arg1 : Memref sig .tc .vmem S2x1024x256 .f32) (harg1 : arg1.IsWhole)
    (arg2 : Memref sig .tc .vmem S2x1024x256 .f32) (harg2 : arg2.IsWhole) (arg3 : Memref sig .tc .smem S1x1 .f32)
    (harg3 : arg3.IsWhole) (arg4 : Memref sig .tc .vmem S2x1024x256 .f32) (harg4 : arg4.IsWhole)
    (arg5 : Memref sig .tc .vmem S2x1024x1024 .f32) (harg5 : arg5.IsWhole)
    (x0 : Vec Ideal S2x1024x256 .f32) (x1 : Vec Ideal S2x1024x256 .f32) (x2 : Vec Ideal S1x1 .f32) :
    out0_A_3 c i arg1 harg1 arg2 harg2 arg3 harg3 arg4 harg4 arg5 harg5 x0 x1 x2
      = View.canon [⟨rectP1, slabOut (x2 (ix2 0 0)) (View.ld x0 rectP1) (View.ld x1 rectP1)⟩,
          ⟨rectP0, slabOut (x2 (ix2 0 0)) (View.ld x0 rectP0) (View.ld x1 rectP0)⟩] := by
  unfold out0_A_3
  rw [View.read_writes_eq_canon _ _ _ (cover0_A_3 c i arg1 harg1 arg2 harg2 arg3 harg3 arg4 harg4 arg5 harg5 x0 x1 x2)]
  unfold kernelRun0_A
  dsimp only
  sl_unfold_words
  simp only [View.readAt_eq_ld, harg1.read_unread, harg2.read_unread, harg3.read_unread]
  have hv : View.ld x2 (Rect.unit ![0, 0] ![1, 1] inb_S1x1_S1x1_0_0) (Shape.Idx.first (by decide)) = x2 (ix2 0 0) := by
    refine congrArg x2 (funext fun a => Fin.ext ?_)
    match a with
    | ⟨0, _⟩ => rfl
    | ⟨1, _⟩ => rfl
  generalize x2 (ix2 0 0) = v at hv ⊢
  generalize View.ld x0 (Rect.unit ![0, 0, 0] _ _) = X0
  generalize View.ld x0 (Rect.unit ![1, 0, 0] _ _) = X1
  generalize View.ld x1 (Rect.unit ![0, 0, 0] _ _) = Y0
  generalize View.ld x1 (Rect.unit ![1, 0, 0] _ _) = Y1
  rw [hv]
  have h5 : k0_pay5 (k0_pay3 (F := Ideal) v X0 Y0) = slabK v X0 Y0 := rfl
  have h6 : k0_pay6 (k0_pay3 (F := Ideal) v X0 Y0) = rowFactors v X0 Y0 0 := rfl
  have h12 : k0_pay12 (k0_pay7 (F := Ideal) v X1 Y1) (k0_pay8 v X1 Y1) (k0_pay9 v X1 Y1) k0_pay10 = slabK v X1 Y1 := rfl
  have h13 : k0_pay13 (k0_pay7 (F := Ideal) v X1 Y1) (k0_pay8 v X1 Y1) (k0_pay9 v X1 Y1) k0_pay10 = rowFactors v X1 Y1 0 := rfl
  have h1 : ∀ (u : FVec Ideal S1024x1 .f32) (p q : Vec Ideal S1x1024x1024 .f32) (y : Vec Ideal S1x1024x256 .f32),
      k0_pay1 (k0_pay17 u p q y) (k0_pay18 u p q) = k0_pay2 u p q y := fun _ _ _ _ => rfl
  have ht : Scf.trips (0#32) (Scalar.addi 0#32 19#32) 1#32 = 19 := by decide
  rw [h5, h6, h12, h13, h1, ht, state_eq _ _ _ _ _ _ _ _ _ _ _ _ _ _ _ _ _ _ _ _ _ _ 19 le_rfl]
  unfold View.readCov
  rw [readAt_scratch0, readAt_scratch1]
  rfl

/-- Entry `(0, i, d)` of the output block. -/
theorem out_entry0 (w0 w1 : Vec Ideal S1x1024x256 .f32) (i : Fin 1024) (d : Fin 256) :
    View.canon (Val := Elt Ideal) (e := .f32) [⟨rectP1, w1⟩, ⟨rectP0, w0⟩] (ix3 0 i d) = w0 (ix3 0 i d) := by
  have e : (ix3 0 i d : S2x1024x256.Idx) = rectP0.emb (ix3 0 i d) := by
    funext a; apply Fin.ext
    match a with
    | ⟨0, _⟩ => rfl
    | ⟨1, _⟩ => show i.val = 0 + 1 * i.val; omega
    | ⟨2, _⟩ => show d.val = 0 + 1 * d.val; omega
  rw [e]
  exact (View.canon_cons_of_not_mem (Val := Elt Ideal) (e := .f32) ⟨rectP1, w1⟩ [⟨rectP0, w0⟩]
    (rectP0_not_mem (ix3 0 i d))).trans (View.canon_cons_emb rectP0 w0 [] (ix3 0 i d))

/-- Entry `(1, i, d)` of the output block. -/
theorem out_entry1 (w0 w1 : Vec Ideal S1x1024x256 .f32) (i : Fin 1024) (d : Fin 256) :
    View.canon (Val := Elt Ideal) (e := .f32) [⟨rectP1, w1⟩, ⟨rectP0, w0⟩] (ix3 1 i d) = w1 (ix3 0 i d) := by
  have e : (ix3 1 i d : S2x1024x256.Idx) = rectP1.emb (ix3 0 i d) := by
    funext a; apply Fin.ext
    match a with
    | ⟨0, _⟩ => rfl
    | ⟨1, _⟩ => show i.val = 0 + 1 * i.val; omega
    | ⟨2, _⟩ => show d.val = 0 + 1 * d.val; omega
  rw [e]
  exact View.canon_cons_emb rectP1 w1 _ (ix3 0 i d)

end Cert.KernelIdeal.Gen
-- ==== Proof.KernelArray.lean ====
/-
  What the kernel's result array holds: batch entry `2 t + s` is the slab `s` that grid point `t` writes back, and so the
  barycentric projection of that batch entry's points.
-/
module

public import proofs.«01_k».proof.Proof.Trip

@[expose] public section

set_option maxRecDepth 16384

noncomputable section

open Idealize.ShloMosaic Idealize.ShloMosaic.TcCoe Idealize.SL.Sem
open Idealize.ShloMosaic.Pipeline (Dat)
open Cert.Reals Cert.Spec

namespace Cert.KernelIdeal.Value

open Cert.KernelIdeal.Gen

variable (m : (ℓ : Loc nD τ sig) → Buf (Elt Ideal) ℓ)

/-- The batch entry of slab `s` at grid point `t`. -/
def entryOf (t : Fin cfg0.N) (s : Fin 2) : Fin 4 :=
  ⟨2 * t.val + s.val, by have h : t.val < 2 := t.isLt; omega⟩

/-- Every batch entry is a slab of a grid point. -/
theorem exists_entryOf (b : Fin 4) : ∃ t s, b = entryOf t s :=
  ⟨⟨b.val / 2, by show b.val / 2 < 2; omega⟩, ⟨b.val % 2, by omega⟩, Fin.ext (by show b.val = 2 * (b.val / 2) + b.val % 2; omega)⟩

/-- Grid point `t` reads the `t`-th pair of slabs of the first argument. -/
theorem index0 : ∀ t : Fin grid0.N, win0_0.index t 0 = t.val ∧ win0_0.index t 1 = 0 ∧ win0_0.index t 2 = 0 := by decide +kernel
/-- Grid point `t` reads the `t`-th pair of slabs of the second argument. -/
theorem index1 : ∀ t : Fin grid0.N, win0_1.index t 0 = t.val ∧ win0_1.index t 1 = 0 ∧ win0_1.index t 2 = 0 := by decide +kernel
/-- Every grid point reads the one reciprocal. -/
theorem index2 : ∀ t : Fin grid0.N, win0_2.index t 0 = 0 ∧ win0_2.index t 1 = 0 := by decide +kernel
/-- Grid point `t` writes the `t`-th pair of slabs of the result. -/
theorem index3 : ∀ t : Fin grid0.N, win0_3.index t 0 = t.val ∧ win0_3.index t 1 = 0 ∧ win0_3.index t 2 = 0 := by decide +kernel

/-- The block of the first points at grid point `t`. -/
theorem iblk0_entry (c : Dev nD) (t : Fin cfg0.N) (s : Fin 2) (i : Fin 1024) (d : Fin 256) :
    (iblk m c 0 t : Vec Ideal S2x1024x256 .f32) (ix3 s i d)
      = m ((c.tc : Thread nD τ).loc main_arg0) (ix3 (entryOf t s) i d) := by
  unfold iblk
  rw [View.read_apply]
  show V m c main_arg0 _ = _
  rw [V_main_arg0]
  congr 1
  funext a
  apply Fin.ext
  match a with
  | ⟨0, _⟩ => show win0_0.index t 0 * 2 + 1 * s.val = 2 * t.val + s.val; rw [(index0 t).1]; omega
  | ⟨1, _⟩ => show win0_0.index t 1 * 1024 + 1 * i.val = i.val; rw [(index0 t).2.1]; omega
  | ⟨2, _⟩ => show win0_0.index t 2 * 256 + 1 * d.val = d.val; rw [(index0 t).2.2]; omega

/-- The block of the second points at grid point `t`. -/
theorem iblk1_entry (c : Dev nD) (t : Fin cfg0.N) (s : Fin 2) (i : Fin 1024) (d : Fin 256) :
    (iblk m c 1 t : Vec Ideal S2x1024x256 .f32) (ix3 s i d)
      = m ((c.tc : Thread nD τ).loc main_arg1) (ix3 (entryOf t s) i d) := by
  unfold iblk
  rw [View.read_apply]
  show V m c main_arg1 _ = _
  rw [V_main_arg1]
  congr 1
  funext a
  apply Fin.ext
  match a with
  | ⟨0, _⟩ => show win0_1.index t 0 * 2 + 1 * s.val = 2 * t.val + s.val; rw [(index1 t).1]; omega
  | ⟨1, _⟩ => show win0_1.index t 1 * 1024 + 1 * i.val = i.val; rw [(index1 t).2.1]; omega
  | ⟨2, _⟩ => show win0_1.index t 2 * 256 + 1 * d.val = d.val; rw [(index1 t).2.2]; omega

/-- The scalar window's array: the reciprocal of the third argument. -/
theorem V_main_v2 (c : Dev nD) :
    (V m c main_v2 : FVec Ideal S1x1 .f32)
      = shapeCast S1x1 (Host.divf (F := Ideal) (φ := .f32) (broadcastInDim S1 ![] bcast_S_S1 (constant (F := Ideal) S_ .f32 0x3F800000#32))
        (m ((c.tc : Thread nD τ).loc main_arg2))) shapeCasts_S1_S1x1 := by
  show StableHlo.after hostOps0 _ (Proc.devRef .tc main_v2) = _
  after_results
  rfl

/-- The scalar that every grid point reads is the reciprocal of the regularisation. -/
theorem iblk2_entry (c : Dev nD) (t : Fin cfg0.N) :
    (iblk m c 2 t : Vec Ideal S1x1 .f32) (ix2 0 0)
      = Ideal.div 1 (m ((c.tc : Thread nD τ).loc main_arg2) (ix1 0)) := by
  unfold iblk
  rw [View.read_apply]
  have hi : (((cfg0.win 2).blk t).view.emb (ix2 0 0) : S1x1.Idx) = ix2 0 0 := by
    funext a
    apply Fin.ext
    match a with
    | ⟨0, _⟩ => show win0_2.index t 0 * 1 + 1 * 0 = 0; rw [(index2 t).1]
    | ⟨1, _⟩ => show win0_2.index t 1 * 1 + 1 * 0 = 0; rw [(index2 t).2]
  refine (congrArg (V m c main_v2) hi).trans ?_
  refine (congrFun (V_main_v2 m c) (ix2 0 0)).trans ?_
  pointwise

/-- Entry `(2 t + s, i, d)` of the result array is entry `(s, i, d)` of what grid point `t` leaves. -/
theorem arr_entry (c : Dev nD) (t : Fin cfg0.N) (s : Fin 2) (i : Fin 1024) (d : Fin 256) :
    (dats m 0 c).arrAt 3 cfg0.N (ix3 (entryOf t s) i d)
      = View.canon (Val := Elt Ideal) (e := .f32) [
          ⟨rectP1, slabOut ((iblk m c 2 t : Vec Ideal S1x1 .f32) (ix2 0 0)) (View.ld (iblk m c 0 t) rectP1) (View.ld (iblk m c 1 t) rectP1)⟩,
          ⟨rectP0, slabOut ((iblk m c 2 t : Vec Ideal S1x1 .f32) (ix2 0 0)) (View.ld (iblk m c 0 t) rectP0) (View.ld (iblk m c 1 t) rectP0)⟩]
          (ix3 s i d) := by
  have h := congrFun (blocks3 m c t (flush0_3 t)) (ix3 s i d : S2x1024x256.Idx)
  rw [flushed3_A, out_eq, View.read_apply] at h
  refine Eq.trans (congrArg _ ?_) h
  funext a
  apply Fin.ext
  match a with
  | ⟨0, _⟩ => show 2 * t.val + s.val = win0_3.index t 0 * 2 + 1 * s.val; rw [(index3 t).1]; omega
  | ⟨1, _⟩ => show i.val = win0_3.index t 1 * 1024 + 1 * i.val; rw [(index3 t).2.1]; omega
  | ⟨2, _⟩ => show d.val = win0_3.index t 2 * 256 + 1 * d.val; rw [(index3 t).2.2]; omega

/-- Entry `(b, i, d)` of the kernel's result, for real points and a regularisation whose reciprocal is the real `ρ`: the
barycentric projection of batch entry `b`, for the exponents shifted by any constant `κ`. -/
theorem kernel_entry (c : Dev nD) {X Y : Fin 4 → Fin 1024 → Fin 256 → ℝ} {ρ : ℝ}
    (hX : ∀ b i d, m ((c.tc : Thread nD τ).loc main_arg0) (ix3 b i d) = (X b i d : EReal))
    (hY : ∀ b i d, m ((c.tc : Thread nD τ).loc main_arg1) (ix3 b i d) = (Y b i d : EReal))
    (hρ : Ideal.div 1 (m ((c.tc : Thread nD τ).loc main_arg2) (ix1 0)) = (ρ : EReal)) (κ : ℝ)
    (b : Fin 4) (i : Fin 1024) (d : Fin 256) :
    (dats m 0 c).arrAt 3 cfg0.N (ix3 b i d) = (project (fun i j => gibbs ρ (X b) (Y b) i j + κ) (Y b) i d : EReal) := by
  obtain ⟨t, s, rfl⟩ := exists_entryOf b
  have e0 : ∀ (i : Fin 1024) (d : Fin 256), rectP0.emb (ix3 0 i d) = (ix3 0 i d : S2x1024x256.Idx) := by
    intro i d; funext a; apply Fin.ext
    match a with
    | ⟨0, _⟩ => rfl
    | ⟨1, _⟩ => show 0 + 1 * i.val = i.val; omega
    | ⟨2, _⟩ => show 0 + 1 * d.val = d.val; omega
  have e1 : ∀ (i : Fin 1024) (d : Fin 256), rectP1.emb (ix3 0 i d) = (ix3 1 i d : S2x1024x256.Idx) := by
    intro i d; funext a; apply Fin.ext
    match a with
    | ⟨0, _⟩ => rfl
    | ⟨1, _⟩ => show 0 + 1 * i.val = i.val; omega
    | ⟨2, _⟩ => show 0 + 1 * d.val = d.val; omega
  rw [arr_entry, iblk2_entry, hρ]
  match s with
  | ⟨0, _⟩ =>
    refine (out_entry0 _ _ i d).trans (block_value (fun i d => ?_) (fun i d => ?_) κ i d)
    · exact (congrArg (iblk m c 0 t : Vec Ideal S2x1024x256 .f32) (e0 i d)).trans ((iblk0_entry m c t 0 i d).trans (hX _ _ _))
    · exact (congrArg (iblk m c 1 t : Vec Ideal S2x1024x256 .f32) (e0 i d)).trans ((iblk1_entry m c t 0 i d).trans (hY _ _ _))
  | ⟨1, _⟩ =>
    refine (out_entry1 _ _ i d).trans (block_value (fun i d => ?_) (fun i d => ?_) κ i d)
    · exact (congrArg (iblk m c 0 t : Vec Ideal S2x1024x256 .f32) (e1 i d)).trans ((iblk0_entry m c t 1 i d).trans (hX _ _ _))
    · exact (congrArg (iblk m c 1 t : Vec Ideal S2x1024x256 .f32) (e1 i d)).trans ((iblk1_entry m c t 1 i d).trans (hY _ _ _))

end Cert.KernelIdeal.Value
-- ==== Proof.HostExtreme.lean ====
/-
  The host's largest and smallest elements along one axis, entry by entry, for axes of any length.
-/
module

public import Idealize.ShloMosaic.Lib.Pointwise

@[expose] public section

noncomputable section

namespace Cert.HostExtreme

open Idealize.ShloMosaic

variable {n0 n1 n2 : ℕ}

/-- The largest element along the middle axis of a stack of matrices. -/
theorem max_middle {u : Shape} (A : FVec Ideal ⟨3, ![n0, n1, n2]⟩ .f32) (w : FVec Ideal u .f32)
    (h : (⟨3, ![n0, n1, n2]⟩ : Shape).ReducesTo [1] ⟨2, ![n0, n2]⟩) (hu : 0 < u.numel) (b : Fin n0) (j : Fin n2) :
    Host.reduce FloatOps.maximumf A w h hu (ix2 b j) =
      Finset.univ.fold max (w (Shape.Idx.first hu)) fun i => A (ix3 b i j) := by
  rw [Host.reduce_eq_fold, h.fold_fiber_r3_a1]
  rfl

/-- The largest element along the last axis of a stack of matrices. -/
theorem max_last {u : Shape} (A : FVec Ideal ⟨3, ![n0, n1, n2]⟩ .f32) (w : FVec Ideal u .f32)
    (h : (⟨3, ![n0, n1, n2]⟩ : Shape).ReducesTo [2] ⟨2, ![n0, n1]⟩) (hu : 0 < u.numel) (b : Fin n0) (i : Fin n1) :
    Host.reduce FloatOps.maximumf A w h hu (ix2 b i) =
      Finset.univ.fold max (w (Shape.Idx.first hu)) fun j => A (ix3 b i j) := by
  rw [Host.reduce_eq_fold, h.fold_fiber_r3_a2]
  rfl

/-- The smallest element along the last axis of a matrix. -/
theorem min_last {u : Shape} (A : FVec Ideal ⟨2, ![n0, n1]⟩ .f32) (w : FVec Ideal u .f32)
    (h : (⟨2, ![n0, n1]⟩ : Shape).ReducesTo [1] ⟨1, ![n0]⟩) (hu : 0 < u.numel) (b : Fin n0) :
    Host.reduce FloatOps.minimumf A w h hu (ix1 b) =
      Finset.univ.fold min (w (Shape.Idx.first hu)) fun k => A (ix2 b k) := by
  rw [Host.reduce_eq_fold, h.fold_fiber_r2_a1]
  rfl

end Cert.HostExtreme
-- ==== Proof.LogSumExp.lean ====
/-
  The logarithm of a sum of exponentials as the reference computes it, along the columns and along the rows of a stack of
  square matrices: the exponents are shifted by their largest, and the shift is added back.

  For real exponents the shift cancels: `colLse_real` and `rowLse_real`.
-/
module

public import proofs.«01_k».proof.Proof.Gen.ReferenceIdeal.Run
public import proofs.«01_k».proof.Proof.Reals
public import proofs.«01_k».proof.Proof.Sinkhorn
public import proofs.«01_k».proof.Proof.HostExtreme

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Reals Cert.Sinkhorn Cert.HostExtreme

/-! ## Along the columns -/

/-- The largest entry of each column. -/
def colMax (A : FVec Ideal S4x1024x1024 .f32) : FVec Ideal S4x1x1024 .f32 :=
  broadcastInDim S4x1x1024 ![0, 2] bcast_S4x1024_S4x1x1024_0_2
    (Host.reduce FloatOps.maximumf A (constant S_ .f32 0xFF800000#32) reducesTo_S4x1024x1024_S4x1024_d1 h_S_)

/-- An array with its infinite entries set to zero. -/
def colFinite (M : FVec Ideal S4x1x1024 .f32) : FVec Ideal S4x1x1024 .f32 :=
  select (cmpf .olt (Host.absf M) (broadcastInDim S4x1x1024 ![] bcast_S_S4x1x1024 (constant S_ .f32 0x7F800000#32)))
    M (broadcastInDim S4x1x1024 ![] bcast_S_S4x1x1024 (id (constant S_ .f32 0x00000000#32)))

/-- A real entry is kept. -/
theorem colFinite_apply (M : FVec Ideal S4x1x1024 .f32) (b : Fin 4) (j : Fin 1024) (t : ℝ)
    (h : M (ix3 b 0 j) = (t : EReal)) : colFinite M (ix3 b 0 j) = (t : EReal) := by
  unfold colFinite
  pointwise
  rw [h, Ideal.absf_def, if_pos]
  rw [ofBits_pos_inf]
  exact abs_lt_top t

/-- The shift of each column: its largest entry, or zero where that is infinite. -/
def colTop (A : FVec Ideal S4x1024x1024 .f32) : FVec Ideal S4x1x1024 .f32 := colFinite (colMax A)

/-- The shifted logarithm of the sum of the exponentials of each column. -/
def colLse (A : FVec Ideal S4x1024x1024 .f32) : FVec Ideal S4x1024 .f32 :=
  addf (Host.log (Host.reduceAdd (Host.exp (subf A
      (broadcastInDim S4x1024x1024 ![0, 1, 2] bcast_S4x1x1024_S4x1024x1024_0_1_2 (colTop A))))
    (constant S_ .f32 0x00000000#32) reducesTo_S4x1024x1024_S4x1024_d1 h_S_))
    (shapeCast S4x1024 (colTop A) shapeCasts_S4x1x1024_S4x1024)

/-- The largest entry of a column is a maximum over the column. -/
theorem colMax_apply (A : FVec Ideal S4x1024x1024 .f32) (b : Fin 4) (j : Fin 1024) :
    colMax A (ix3 b 0 j) = Finset.univ.fold max (Ideal.ofBits .f32 0xFF800000#32) (fun i => A (ix3 b i j)) := by
  have hb (B : FVec Ideal S4x1024 .f32) :
      broadcastInDim S4x1x1024 ![0, 2] bcast_S4x1024_S4x1x1024_0_2 B (ix3 b 0 j) = B (ix2 b j) := by
    pointwise
  unfold colMax
  rw [hb]
  exact max_middle A _ reducesTo_S4x1024x1024_S4x1024_d1 h_S_ b j

/-- A column of real entries has a real shift. -/
theorem colTop_real (A : FVec Ideal S4x1024x1024 .f32) (a : Fin 4 → Fin 1024 → Fin 1024 → ℝ)
    (hA : ∀ b i j, A (ix3 b i j) = (a b i j : EReal)) (b : Fin 4) (j : Fin 1024) :
    ∃ t : ℝ, colTop A (ix3 b 0 j) = (t : EReal) := by
  obtain ⟨t, ht⟩ := exists_fold_max (fun i => a b i j)
  refine ⟨t, colFinite_apply (colMax A) b j t ?_⟩
  rw [colMax_apply, ofBits_neg_inf]
  simp only [hA]
  exact ht

/-- For real entries the shift cancels: the logarithm of the sum of the exponentials of the column. -/
theorem colLse_real (A : FVec Ideal S4x1024x1024 .f32) (a : Fin 4 → Fin 1024 → Fin 1024 → ℝ)
    (hA : ∀ b i j, A (ix3 b i j) = (a b i j : EReal)) (b : Fin 4) (j : Fin 1024) :
    colLse A (ix2 b j) = ((Real.log (∑ i, Real.exp (a b i j)) : ℝ) : EReal) := by
  obtain ⟨t, ht⟩ := colTop_real A a hA b j
  unfold colLse
  pointwise
  simp only [hA, ht, ← EReal.coe_sub, exp_coe, sum_coe]
  rw [log_coe (sum_exp_pos _), ← EReal.coe_add, log_sum_exp_shift]

/-! ## Along the rows -/

/-- The largest entry of each row. -/
def rowMax (A : FVec Ideal S4x1024x1024 .f32) : FVec Ideal S4x1024x1 .f32 :=
  broadcastInDim S4x1024x1 ![0, 1] bcast_S4x1024_S4x1024x1_0_1
    (Host.reduce FloatOps.maximumf A (constant S_ .f32 0xFF800000#32) reducesTo_S4x1024x1024_S4x1024_d2 h_S_)

/-- An array with its infinite entries set to zero. -/
def rowFinite (M : FVec Ideal S4x1024x1 .f32) : FVec Ideal S4x1024x1 .f32 :=
  select (cmpf .olt (Host.absf M) (broadcastInDim S4x1024x1 ![] bcast_S_S4x1024x1 (constant S_ .f32 0x7F800000#32)))
    M (broadcastInDim S4x1024x1 ![] bcast_S_S4x1024x1 (id (constant S_ .f32 0x00000000#32)))

/-- A real entry is kept. -/
theorem rowFinite_apply (M : FVec Ideal S4x1024x1 .f32) (b : Fin 4) (i : Fin 1024) (t : ℝ)
    (h : M (ix3 b i 0) = (t : EReal)) : rowFinite M (ix3 b i 0) = (t : EReal) := by
  unfold rowFinite
  pointwise
  rw [h, Ideal.absf_def, if_pos]
  rw [ofBits_pos_inf]
  exact abs_lt_top t

/-- The shift of each row: its largest entry, or zero where that is infinite. -/
def rowTop (A : FVec Ideal S4x1024x1024 .f32) : FVec Ideal S4x1024x1 .f32 := rowFinite (rowMax A)

/-- The shifted logarithm of the sum of the exponentials of each row. -/
def rowLse (A : FVec Ideal S4x1024x1024 .f32) : FVec Ideal S4x1024 .f32 :=
  addf (Host.log (Host.reduceAdd (Host.exp (subf A
      (broadcastInDim S4x1024x1024 ![0, 1, 2] bcast_S4x1024x1_S4x1024x1024_0_1_2 (rowTop A))))
    (constant S_ .f32 0x00000000#32) reducesTo_S4x1024x1024_S4x1024_d2 h_S_))
    (shapeCast S4x1024 (rowTop A) shapeCasts_S4x1024x1_S4x1024)

/-- The largest entry of a row is a maximum over the row. -/
theorem rowMax_apply (A : FVec Ideal S4x1024x1024 .f32) (b : Fin 4) (i : Fin 1024) :
    rowMax A (ix3 b i 0) = Finset.univ.fold max (Ideal.ofBits .f32 0xFF800000#32) (fun j => A (ix3 b i j)) := by
  have hb (B : FVec Ideal S4x1024 .f32) :
      broadcastInDim S4x1024x1 ![0, 1] bcast_S4x1024_S4x1024x1_0_1 B (ix3 b i 0) = B (ix2 b i) := by
    pointwise
  unfold rowMax
  rw [hb]
  exact max_last A _ reducesTo_S4x1024x1024_S4x1024_d2 h_S_ b i

/-- A row of real entries has a real shift. -/
theorem rowTop_real (A : FVec Ideal S4x1024x1024 .f32) (a : Fin 4 → Fin 1024 → Fin 1024 → ℝ)
    (hA : ∀ b i j, A (ix3 b i j) = (a b i j : EReal)) (b : Fin 4) (i : Fin 1024) :
    ∃ t : ℝ, rowTop A (ix3 b i 0) = (t : EReal) := by
  obtain ⟨t, ht⟩ := exists_fold_max (fun j => a b i j)
  refine ⟨t, rowFinite_apply (rowMax A) b i t ?_⟩
  rw [rowMax_apply, ofBits_neg_inf]
  simp only [hA]
  exact ht

/-- For real entries the shift cancels: the logarithm of the sum of the exponentials of the row. -/
theorem rowLse_real (A : FVec Ideal S4x1024x1024 .f32) (a : Fin 4 → Fin 1024 → Fin 1024 → ℝ)
    (hA : ∀ b i j, A (ix3 b i j) = (a b i j : EReal)) (b : Fin 4) (i : Fin 1024) :
    rowLse A (ix2 b i) = ((Real.log (∑ j, Real.exp (a b i j)) : ℝ) : EReal) := by
  obtain ⟨t, ht⟩ := rowTop_real A a hA b i
  unfold rowLse
  pointwise
  simp only [hA, ht, ← EReal.coe_sub, exp_coe, sum_coe]
  rw [log_coe (sum_exp_pos _), ← EReal.coe_add, log_sum_exp_shift]

end Cert.ReferenceIdeal.Value
-- ==== Proof.RefTerms.lean ====
/-
  The reference's value as composed array expressions.

  `exponents` is the array of minus the shifted costs over the regularisation, `halfV` and `halfU` are the two halves of a
  round, `projection` is what is computed after the last round. The theorems say that the reference's buffers hold these:
  before the loop (`pre_*`), after one trip (`step_round`) and at the end (`post_result`). The arguments, the exponents and
  the logarithm of the weights keep their contents through the loop (`loop_keeps`).
-/
module

public import proofs.«01_k».proof.Proof.LogSumExp

@[expose] public section

set_option maxRecDepth 16384

noncomputable section

namespace Cert.ReferenceIdeal.Value

open Idealize.ShloMosaic Idealize.ShloMosaic.TcCoe Idealize.SL.Sem Idealize.ShloMosaic.StableHlo
open Cert.ReferenceIdeal Cert.ReferenceIdeal.Gen

/-- The squared distances between the points, cut off below at zero. -/
def costs (x y : FVec Ideal S4x1024x256 .f32) : FVec Ideal S4x1024x1024 .f32 :=
  maximumf
    (subf
      (addf
        (broadcastInDim S4x1024x1024 ![0, 1, 2] bcast_S4x1024x1_S4x1024x1024_0_1_2
          (broadcastInDim S4x1024x1 ![0, 1] bcast_S4x1024_S4x1024x1_0_1
            (Host.reduceAdd (mulf x x) (constant S_ .f32 0x00000000#32) reducesTo_S4x1024x256_S4x1024_d2 h_S_)))
        (broadcastInDim S4x1024x1024 ![0, 1, 2] bcast_S4x1x1024_S4x1024x1024_0_1_2
          (broadcastInDim S4x1x1024 ![0, 2] bcast_S4x1024_S4x1x1024_0_2
            (Host.reduceAdd (mulf y y) (constant S_ .f32 0x00000000#32) reducesTo_S4x1024x256_S4x1024_d2 h_S_))))
      (mulf (broadcastInDim S4x1024x1024 ![] bcast_S_S4x1024x1024 (constant S_ .f32 0x40000000#32))
        (Host.dotGeneral dot_S4x1024x256_S4x1024x256_S4x1024x1024_2_2_1_1_0_0 none x y)))
    (broadcastInDim S4x1024x1024 ![] bcast_S_S4x1024x1024 (constant S_ .f32 0x00000000#32))

/-- The smallest element of each matrix of a stack. -/
def smallest (C : FVec Ideal S4x1024x1024 .f32) : FVec Ideal S4 .f32 :=
  Host.reduce FloatOps.minimumf (shapeCast S4x1048576 C shapeCasts_S4x1024x1024_S4x1048576)
    (constant S_ .f32 0x7F800000#32) reducesTo_S4x1048576_S4_d1 h_S_

/-- Minus the costs, shifted by their smallest `w`, over the regularisation. -/
def scaled (C : FVec Ideal S4x1024x1024 .f32) (w : FVec Ideal S4 .f32) (e : FVec Ideal S1 .f32) :
    FVec Ideal S4x1024x1024 .f32 :=
  Host.divf
    (Host.negf (subf C
      (broadcastInDim S4x1024x1024 ![0, 1, 2] bcast_S4x1x1_S4x1024x1024_0_1_2
        (broadcastInDim S4x1x1 ![0] bcast_S4_S4x1x1_0 w))))
    (broadcastInDim S4x1024x1024 ![] bcast_S_S4x1024x1024 (shapeCast S_ e shapeCasts_S1_S_))

/-- The exponents of the Gibbs kernel. -/
def exponents (x y : FVec Ideal S4x1024x256 .f32) (e : FVec Ideal S1 .f32) : FVec Ideal S4x1024x1024 .f32 :=
  scaled (costs x y) (smallest (costs x y)) e

/-- A number in every place of a stack of vectors. -/
def everywhere (w : BitVec 32) : FVec Ideal S4x1024 .f32 :=
  broadcastInDim S4x1024 ![] bcast_S_S4x1024 (constant S_ .f32 w)

/-- The exponents with a vector added to every column. -/
def addRows (K : FVec Ideal S4x1024x1024 .f32) (lu : FVec Ideal S4x1024 .f32) : FVec Ideal S4x1024x1024 .f32 :=
  addf K (broadcastInDim S4x1024x1024 ![0, 1, 2] bcast_S4x1024x1_S4x1024x1024_0_1_2
    (broadcastInDim S4x1024x1 ![0, 1] bcast_S4x1024_S4x1024x1_0_1 lu))

/-- The exponents with a vector added to every row. -/
def addCols (K : FVec Ideal S4x1024x1024 .f32) (lv : FVec Ideal S4x1024 .f32) : FVec Ideal S4x1024x1024 .f32 :=
  addf K (broadcastInDim S4x1024x1024 ![0, 1, 2] bcast_S4x1x1024_S4x1024x1024_0_1_2
    (broadcastInDim S4x1x1024 ![0, 2] bcast_S4x1024_S4x1x1024_0_2 lv))

/-- The column half of a round. -/
def halfV (K : FVec Ideal S4x1024x1024 .f32) (lb lu : FVec Ideal S4x1024 .f32) : FVec Ideal S4x1024 .f32 :=
  subf lb (colLse (addRows K lu))

/-- The row half of a round. -/
def halfU (K : FVec Ideal S4x1024x1024 .f32) (la lv : FVec Ideal S4x1024 .f32) : FVec Ideal S4x1024 .f32 :=
  subf la (rowLse (addCols K lv))

/-- The transport plan. -/
def planOf (K : FVec Ideal S4x1024x1024 .f32) (lu lv : FVec Ideal S4x1024 .f32) : FVec Ideal S4x1024x1024 .f32 :=
  Host.exp (addf
    (addf
      (broadcastInDim S4x1024x1024 ![0, 1, 2] bcast_S4x1024x1_S4x1024x1024_0_1_2
        (broadcastInDim S4x1024x1 ![0, 1] bcast_S4x1024_S4x1024x1_0_1 lu))
      K)
    (broadcastInDim S4x1024x1024 ![0, 1, 2] bcast_S4x1x1024_S4x1024x1024_0_1_2
      (broadcastInDim S4x1x1024 ![0, 2] bcast_S4x1024_S4x1x1024_0_2 lv)))

/-- The average of the points under each row of a plan, the row's sum cut off below. -/
def average (P : FVec Ideal S4x1024x1024 .f32) (y : FVec Ideal S4x1024x256 .f32) : FVec Ideal S4x1024x256 .f32 :=
  Host.divf (Host.dotGeneral dot_S4x1024x1024_S4x1024x256_S4x1024x256_2_1_1_2_0_0 none P y)
    (broadcastInDim S4x1024x256 ![0, 1, 2] bcast_S4x1024x1_S4x1024x256_0_1_2
      (maximumf (broadcastInDim S4x1024x1 ![] bcast_S_S4x1024x1 (id (constant S_ .f32 0x2B8CBCCC#32)))
        (broadcastInDim S4x1024x1 ![0, 1] bcast_S4x1024_S4x1024x1_0_1
          (Host.reduceAdd P (constant S_ .f32 0x00000000#32) reducesTo_S4x1024x1024_S4x1024_d2 h_S_))))

/-- What is computed after the last round. -/
def projection (K : FVec Ideal S4x1024x1024 .f32) (lb lu : FVec Ideal S4x1024 .f32) (y : FVec Ideal S4x1024x256 .f32) :
    FVec Ideal S4x1024x256 .f32 :=
  average (planOf K lu (halfV K lb lu)) y

/-! ## Before the loop -/

variable (V : Valuation τ sig (Elt Ideal))

/-- The exponents, as the reference computes them before the loop. -/
theorem pre_exponents : afterL preI V (Proc.devRef .tc main_v23) =
    exponents (V (Proc.devRef .tc main_arg0)) (V (Proc.devRef .tc main_arg1)) (V (Proc.devRef .tc main_arg2)) := by
  simp only [preI, afterL_cons, afterL_nil]
  after_results_simp
  rfl

/-- The exponents enter the loop. -/
theorem pre_carried0 : afterL preI V (Proc.devRef .tc main_v27_0) =
    exponents (V (Proc.devRef .tc main_arg0)) (V (Proc.devRef .tc main_arg1)) (V (Proc.devRef .tc main_arg2)) := by
  simp only [preI, afterL_cons, afterL_nil]
  after_results_simp
  rfl

/-- The logarithm of the column weights. -/
theorem pre_weights : afterL preI V (Proc.devRef .tc main_v25) = everywhere 0xC0DDCE9E#32 := by
  simp only [preI, afterL_cons, afterL_nil]
  after_results_simp
  rfl

/-- The logarithm of the column weights enters the loop. -/
theorem pre_carried1 : afterL preI V (Proc.devRef .tc main_v27_1) = everywhere 0xC0DDCE9E#32 := by
  simp only [preI, afterL_cons, afterL_nil]
  after_results_simp
  rfl

/-- The logarithm of the row weights enters the loop. -/
theorem pre_carried2 : afterL preI V (Proc.devRef .tc main_v27_2) = everywhere 0xC0DDCE9E#32 := by
  simp only [preI, afterL_cons, afterL_nil]
  after_results_simp
  rfl

/-- The rounds start at zero. -/
theorem pre_carried5 : afterL preI V (Proc.devRef .tc main_v27_5) = everywhere 0x00000000#32 := by
  simp only [preI, afterL_cons, afterL_nil]
  after_results_simp
  rfl

/-! ## One trip -/

/-- A trip computes the column half and then the row half of a round. -/
theorem step_round : step_main_v27_5 V =
    halfU (V (Proc.devRef .tc main_v27_0)) (V (Proc.devRef .tc main_v27_2))
      (halfV (V (Proc.devRef .tc main_v27_0)) (V (Proc.devRef .tc main_v27_1)) (V (Proc.devRef .tc main_v27_5))) := rfl

/-! ## After the loop -/

/-- The stretch that sets infinite column shifts to zero, its references spelt out. -/
theorem hostOps0_2_plain : (hostOps0_2 : List (HloOp τ sig (Elt Ideal))) =
    [ StableHlo.unary main_cst_10 main_call2_v0 (id : FVec Ideal S_ .f32 → FVec Ideal S_ .f32),
      StableHlo.unary main_call2_v0 main_call2_v1
        (broadcastInDim S4x1x1024 ![] bcast_S_S4x1x1024 : FVec Ideal S_ .f32 → FVec Ideal S4x1x1024 .f32),
      StableHlo.ternary main_v35 main_v32 main_call2_v1 main_v36
        (select : (S4x1x1024.Idx → BitVec 1) → FVec Ideal S4x1x1024 .f32 → FVec Ideal S4x1x1024 .f32 →
          FVec Ideal S4x1x1024 .f32) ] := rfl

/-- The stretch that cuts the row sums off below, its references spelt out. -/
theorem hostOps0_4_plain : (hostOps0_4 : List (HloOp τ sig (Elt Ideal))) =
    [ StableHlo.unary main_cst_13 main_call3_v0 (id : FVec Ideal S_ .f32 → FVec Ideal S_ .f32),
      StableHlo.unary main_call3_v0 main_call3_v1
        (broadcastInDim S4x1024x1 ![] bcast_S_S4x1024x1 : FVec Ideal S_ .f32 → FVec Ideal S4x1024x1 .f32),
      StableHlo.binary main_call3_v1 main_v53 main_v54
        (maximumf : FVec Ideal S4x1024x1 .f32 → FVec Ideal S4x1024x1 .f32 → FVec Ideal S4x1024x1 .f32) ] := rfl

/-- The result, from the contents after the loop. -/
theorem post_result : afterL postI V (Proc.devRef .tc main_v57) =
    projection (V (Proc.devRef .tc main_v23)) (V (Proc.devRef .tc main_v25)) (V (Proc.devRef .tc main_v27_5))
      (V (Proc.devRef .tc main_arg1)) := by
  simp only [postI, afterL_cons, afterL_nil, hostOps0_2_plain, hostOps0_4_plain]
  after_results_simp
  rfl

end Cert.ReferenceIdeal.Value
-- ==== Proof.RefCosts.lean ====
/-
  The reference's exponents, over the real numbers.

  For real points and a nonzero regularisation the exponents of a batch entry are the matrix `gibbs` plus a constant (the
  smallest cost over the regularisation).
-/
module

public import proofs.«01_k».proof.Proof.RefTerms
public import proofs.«01_k».proof.Proof.Block

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Reals Cert.Sinkhorn Cert.Spec Cert.HostExtreme

variable (x y : FVec Ideal S4x1024x256 .f32) (X Y : Fin 4 → Fin 1024 → Fin 256 → ℝ)

/-- The costs of real points are the real costs. -/
theorem costs_real (hX : ∀ b i d, x (ix3 b i d) = (X b i d : EReal)) (hY : ∀ b i d, y (ix3 b i d) = (Y b i d : EReal))
    (b : Fin 4) (i j : Fin 1024) : costs x y (ix3 b i j) = (cost (X b) (Y b) i j : EReal) := by
  unfold costs
  pointwise
  simp only [hX, hY, ofBits_two, ← EReal.coe_mul, sum_coe, ← EReal.coe_add, ← EReal.coe_sub, ← EReal.coe_zero, max_coe]
  rfl

/-- A stack of real matrices has real smallest elements. -/
theorem smallest_real (C : FVec Ideal S4x1024x1024 .f32) (k : Fin 4 → Fin 1024 → Fin 1024 → ℝ)
    (hC : ∀ b i j, C (ix3 b i j) = (k b i j : EReal)) (b : Fin 4) : ∃ w : ℝ, smallest C (ix1 b) = (w : EReal) := by
  have hreal (q : Fin 1048576) : ∃ r : ℝ, shapeCast S4x1048576 C shapeCasts_S4x1024x1024_S4x1048576 (ix2 b q) = (r : EReal) := by
    have h (p : S4x1024x1024.Idx) : ∃ r : ℝ, C p = (r : EReal) :=
      ⟨k (p 0) (p 1) (p 2),
        (congrArg C (by funext a; fin_cases a <;> rfl : p = ix3 (p 0) (p 1) (p 2))).trans (hC (p 0) (p 1) (p 2))⟩
    exact h _
  choose r hr using hreal
  obtain ⟨w, hw⟩ := exists_fold_min r
  refine ⟨w, ?_⟩
  refine (min_last _ (constant S_ .f32 0x7F800000#32) reducesTo_S4x1048576_S4_d1 h_S_ b).trans ?_
  simp only [hr]
  refine Eq.trans ?_ hw
  rw [← ofBits_pos_inf]
  rfl

/-- Shifting and scaling real costs. -/
theorem scaled_real (C : FVec Ideal S4x1024x1024 .f32) (w : FVec Ideal S4 .f32) (e : FVec Ideal S1 .f32)
    (k : Fin 4 → Fin 1024 → Fin 1024 → ℝ) (s : Fin 4 → ℝ) (ρ : ℝ)
    (hC : ∀ b i j, C (ix3 b i j) = (k b i j : EReal)) (hw : ∀ b, w (ix1 b) = (s b : EReal))
    (he : ∀ z, Ideal.div z (e (ix1 0)) = z * (ρ : EReal)) (b : Fin 4) (i j : Fin 1024) :
    scaled C w e (ix3 b i j) = ((k b i j * (0 - ρ) + s b * ρ : ℝ) : EReal) := by
  unfold scaled
  pointwise
  simp only [hC, hw, he, ← EReal.coe_sub, ← EReal.coe_neg, ← EReal.coe_mul]
  congr 1
  ring

/-- The exponents of real points are the matrix `gibbs` plus a constant in each batch entry. -/
theorem exponents_real (e : FVec Ideal S1 .f32) (ρ : ℝ)
    (hX : ∀ b i d, x (ix3 b i d) = (X b i d : EReal)) (hY : ∀ b i d, y (ix3 b i d) = (Y b i d : EReal))
    (he : ∀ z, Ideal.div z (e (ix1 0)) = z * (ρ : EReal)) :
    ∃ κ : Fin 4 → ℝ, ∀ b i j, exponents x y e (ix3 b i j) = ((gibbs ρ (X b) (Y b) i j + κ b : ℝ) : EReal) := by
  have hC := costs_real x y X Y hX hY
  choose s hs using smallest_real (costs x y) _ hC
  exact ⟨fun b => s b * ρ, fun b i j => scaled_real _ _ e _ s ρ hC hs he b i j⟩

end Cert.ReferenceIdeal.Value
-- ==== Proof.RefLoop.lean ====
/-
  The reference's rounds and its projection, over the real numbers.

  One trip of the loop is one round of the logarithmic iteration, so that after twenty trips the carried vector is
  `logIter logW K 20`. The value computed afterwards is the projection: the cut-off of the row sums is below every row sum.
-/
module

public import proofs.«01_k».proof.Proof.RefTerms
public import proofs.«01_k».proof.Proof.Block

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Reals Cert.Sinkhorn Cert.Spec

section Arrays

variable (K : FVec Ideal S4x1024x1024 .f32) (k : Fin 4 → Fin 1024 → Fin 1024 → ℝ)

/-- The column half of a round. -/
theorem halfV_real (lb lu : FVec Ideal S4x1024 .f32) (u : Fin 4 → Fin 1024 → ℝ)
    (hK : ∀ b i j, K (ix3 b i j) = (k b i j : EReal)) (hlb : ∀ b j, lb (ix2 b j) = (logW : EReal))
    (hlu : ∀ b i, lu (ix2 b i) = (u b i : EReal)) (b : Fin 4) (j : Fin 1024) :
    halfV K lb lu (ix2 b j) = (logV logW (k b) (u b) j : EReal) := by
  have hA (b i j) : addRows K lu (ix3 b i j) = ((k b i j + u b i : ℝ) : EReal) := by
    unfold addRows
    pointwise
    simp only [hK, hlu, ← EReal.coe_add]
  have h := colLse_real (addRows K lu) (fun b i j => k b i j + u b i) hA b j
  unfold halfV
  pointwise
  rw [h, hlb, ← EReal.coe_sub]
  rfl

/-- The row half of a round. -/
theorem halfU_real (la lv : FVec Ideal S4x1024 .f32) (v : Fin 4 → Fin 1024 → ℝ)
    (hK : ∀ b i j, K (ix3 b i j) = (k b i j : EReal)) (hla : ∀ b i, la (ix2 b i) = (logW : EReal))
    (hlv : ∀ b j, lv (ix2 b j) = (v b j : EReal)) (b : Fin 4) (i : Fin 1024) :
    halfU K la lv (ix2 b i) = (logU logW (k b) (v b) i : EReal) := by
  have hA (b i j) : addCols K lv (ix3 b i j) = ((k b i j + v b j : ℝ) : EReal) := by
    unfold addCols
    pointwise
    simp only [hK, hlv, ← EReal.coe_add]
  have h := rowLse_real (addCols K lv) (fun b i j => k b i j + v b j) hA b i
  unfold halfU
  pointwise
  rw [h, hla, ← EReal.coe_sub]
  rfl

/-- The plan. -/
theorem planOf_real (lu lv : FVec Ideal S4x1024 .f32) (u v : Fin 4 → Fin 1024 → ℝ)
    (hK : ∀ b i j, K (ix3 b i j) = (k b i j : EReal)) (hlu : ∀ b i, lu (ix2 b i) = (u b i : EReal))
    (hlv : ∀ b j, lv (ix2 b j) = (v b j : EReal)) (b : Fin 4) (i j : Fin 1024) :
    planOf K lu lv (ix3 b i j) = (plan (k b) (u b) (v b) i j : EReal) := by
  unfold planOf
  pointwise
  simp only [hK, hlu, hlv, ← EReal.coe_add, exp_coe]
  rfl

/-- The average under a real plan whose row sums are at least the cut-off. -/
theorem average_real (P : FVec Ideal S4x1024x1024 .f32) (p : Fin 4 → Fin 1024 → Fin 1024 → ℝ)
    (y : FVec Ideal S4x1024x256 .f32) (Y : Fin 4 → Fin 1024 → Fin 256 → ℝ)
    (hP : ∀ b i j, P (ix3 b i j) = (p b i j : EReal)) (hY : ∀ b i d, y (ix3 b i d) = (Y b i d : EReal))
    (hp : ∀ b i, tiny ≤ ∑ j, p b i j) (b : Fin 4) (i : Fin 1024) (d : Fin 256) :
    average P y (ix3 b i d) = (((∑ j, p b i j * Y b j d) / ∑ j, p b i j : ℝ) : EReal) := by
  have h0 : 0 < tiny := by unfold tiny; norm_num
  unfold average
  pointwise
  have hc : (constant S_ .f32 0x2B8CBCCC#32 : FVec Ideal S_ .f32) ix0 = (tiny : EReal) := ofBits_tiny
  simp only [id, hc, hP, hY, ← EReal.coe_mul, sum_coe, max_coe]
  rw [max_eq_right (hp b i)]
  exact div_coe_coe _ (h0.trans_le (hp b i)).ne'

/-- What is computed after the last round, for a vector that twenty rounds have produced. -/
theorem projection_real (lb lu : FVec Ideal S4x1024 .f32) (y : FVec Ideal S4x1024x256 .f32)
    (Y : Fin 4 → Fin 1024 → Fin 256 → ℝ)
    (hK : ∀ b i j, K (ix3 b i j) = (k b i j : EReal)) (hlb : ∀ b j, lb (ix2 b j) = (logW : EReal))
    (hlu : ∀ b i, lu (ix2 b i) = (logIter logW (k b) 20 i : EReal)) (hY : ∀ b i d, y (ix3 b i d) = (Y b i d : EReal))
    (b : Fin 4) (i : Fin 1024) (d : Fin 256) :
    projection K lb lu y (ix3 b i d) = (project (k b) (Y b) i d : EReal) := by
  have hv := halfV_real K k lb lu (fun b => logIter logW (k b) 20) hK hlb hlu
  have hP := planOf_real K k lu (halfV K lb lu) _ _ hK hlu hv
  have hp (b : Fin 4) (i : Fin 1024) :
      tiny ≤ ∑ j, plan (k b) (logIter logW (k b) 20) (logV logW (k b) (logIter logW (k b) 20)) i j := by
    have h := le_rowSum logW (k b) (logV logW (k b) (logIter logW (k b) 19)) i
    refine le_trans ?_ h
    rw [Fintype.card_fin]
    refine tiny_le.trans ?_
    push_cast
    exact div_le_div_of_nonneg_right (le_exp_of_neg_seven_le neg_seven_le_logW) (by norm_num)
  exact average_real _ _ y Y hP hY hp b i d

/-- A constant array. -/
theorem everywhere_apply (w : BitVec 32) (b : Fin 4) (i : Fin 1024) : everywhere w (ix2 b i) = Ideal.ofBits .f32 w := by
  unfold everywhere
  pointwise

end Arrays

section Rounds

open Idealize.ShloMosaic.StableHlo

variable (V : Valuation τ sig (Elt Ideal))

/-- The exponents and the weights are the same after any number of trips. -/
theorem rounds_keep (n : ℕ) :
    STEP^[n] V (Proc.devRef .tc main_v27_0) = V (Proc.devRef .tc main_v27_0) ∧
    STEP^[n] V (Proc.devRef .tc main_v27_1) = V (Proc.devRef .tc main_v27_1) ∧
    STEP^[n] V (Proc.devRef .tc main_v27_2) = V (Proc.devRef .tc main_v27_2) := by
  induction n with
  | zero => exact ⟨rfl, rfl, rfl⟩
  | succ n ih =>
    rw [Function.iterate_succ_apply']
    exact ⟨(STEP_main_v27_0 _).trans ih.1, (STEP_main_v27_1 _).trans ih.2.1, (STEP_main_v27_2 _).trans ih.2.2⟩

/-- After `n` trips the carried vector is that of `n` rounds. -/
theorem rounds_real (k : Fin 4 → Fin 1024 → Fin 1024 → ℝ)
    (hK : ∀ b i j, (V (Proc.devRef .tc main_v27_0) : FVec Ideal S4x1024x1024 .f32) (ix3 b i j) = (k b i j : EReal))
    (hlb : ∀ b j, (V (Proc.devRef .tc main_v27_1) : FVec Ideal S4x1024 .f32) (ix2 b j) = (logW : EReal))
    (hla : ∀ b i, (V (Proc.devRef .tc main_v27_2) : FVec Ideal S4x1024 .f32) (ix2 b i) = (logW : EReal))
    (hlu : ∀ b i, (V (Proc.devRef .tc main_v27_5) : FVec Ideal S4x1024 .f32) (ix2 b i) = ((0 : ℝ) : EReal)) (n : ℕ) :
    ∀ b i, (STEP^[n] V (Proc.devRef .tc main_v27_5) : FVec Ideal S4x1024 .f32) (ix2 b i) =
      (logIter logW (k b) n i : EReal) := by
  induction n with
  | zero => exact hlu
  | succ n ih =>
    obtain ⟨h0, h1, h2⟩ := rounds_keep V n
    intro b i
    have hs : STEP^[n + 1] V (Proc.devRef .tc main_v27_5) =
        halfU (V (Proc.devRef .tc main_v27_0)) (V (Proc.devRef .tc main_v27_2))
          (halfV (V (Proc.devRef .tc main_v27_0)) (V (Proc.devRef .tc main_v27_1))
            (STEP^[n] V (Proc.devRef .tc main_v27_5))) := by
      rw [Function.iterate_succ_apply', STEP_main_v27_5, step_round, h0, h1, h2]
    refine (congrFun hs (ix2 b i)).trans ?_
    exact halfU_real _ k _ _ _ hK hla (halfV_real _ k _ _ _ hK hlb ih) b i

end Rounds

end Cert.ReferenceIdeal.Value
-- ==== Proof.RefValue.lean ====
/-
  What the reference computes.

  `reference_entry`: for real points and a nonzero regularisation the reference's result is the projection `project` for
  the matrix `gibbs` plus a constant in each batch entry. `reference_run`: every execution ends with that result, with the
  arguments as they were.
-/
module

public import proofs.«01_k».proof.Proof.RefCosts
public import proofs.«01_k».proof.Proof.RefLoop
public import Idealize.ShloMosaic.Lib.Quiescent

@[expose] public section

set_option maxRecDepth 16384

noncomputable section

namespace Cert.ReferenceIdeal.Value

open Idealize.ShloMosaic Idealize.ShloMosaic.TcCoe Idealize.SL.Sem Idealize.ShloMosaic.StableHlo
open Cert.ReferenceIdeal Cert.ReferenceIdeal.Gen Cert.Reals Cert.Sinkhorn Cert.Spec

/-- Everything a trip of the loop writes, and what its condition writes. -/
def tripWrites : List (Ref sig .tc) :=
  condOps_W ++ while0Ops0_W ++ while0Ops0_1_W ++ while0Ops0_2_W ++ while0Ops0_3_W ++ while0Ops0_4_W

/-- A buffer the loop does not write keeps its contents through any number of trips. -/
theorem trips_keep (W : Dev nD → Valuation τ sig (Elt Ideal)) (c : Dev nD) (r : Ref sig .tc) (hr : r ∉ tripWrites) (n : ℕ) :
    atTrip condOps bodyI W n c (Proc.devRef .tc r) = W c (Proc.devRef .tc r) := by
  simp only [tripWrites, List.mem_append, not_or] at hr
  obtain ⟨⟨⟨⟨⟨hc, h0⟩, h1⟩, h2⟩, h3⟩, h4⟩ := hr
  induction n with
  | zero => rfl
  | succ n ih =>
    rw [atTrip_succ]
    simp only [bodyI, afterL_cons, afterL_nil]
    rw [after_of_writes_sub _ _ while0Ops0_4_writes h4, after_of_writes_sub _ _ while0Ops0_3_writes h3,
      after_of_writes_sub _ _ while0Ops0_2_writes h2, after_of_writes_sub _ _ while0Ops0_1_writes h1,
      after_of_writes_sub _ _ while0Ops0_writes h0, after_of_writes_sub _ _ condOps_writes hc, ih]

variable (m : (ℓ : Loc nD τ sig) → Buf (Elt Ideal) ℓ) (ρ : Dev nD → PrngReg) (c : Dev nD)

/-- The contents after the loop and the failing test. -/
def afterLoop : Valuation τ sig (Elt Ideal) := after condOps (atK m 20 c)

/-- A buffer the loop does not write is after it as before it. -/
theorem afterLoop_keeps (r : Ref sig .tc) (hr : r ∉ tripWrites) :
    afterLoop m c (Proc.devRef .tc r) = entryContents preI m c (Proc.devRef .tc r) := by
  have hc : r ∉ condOps_W := fun h => hr (by simp only [tripWrites, List.mem_append]; tauto)
  exact (after_of_writes_sub condOps _ condOps_writes hc).trans (trips_keep _ c r hr 20)

/-- The carried vector after the loop is that of twenty trips. -/
theorem afterLoop_carried : afterLoop m c (Proc.devRef .tc main_v27_5) =
    STEP^[20] (entryContents preI m c) (Proc.devRef .tc main_v27_5) :=
  (cond_keeps (atK m 20 c) main_v27_5 (by decide)).trans (atK_agree m c 20 main_v27_5 (by decide))

/-- Before the loop the first argument is as at the launch. -/
theorem pre_arg0 : entryContents preI m c (Proc.devRef .tc main_arg0) = m ((c.tc : Thread nD τ).loc main_arg0) :=
  after_of_writes_sub hostOps0 _ hostOps0_writes (by decide +kernel)

/-- Before the loop the second argument is as at the launch. -/
theorem pre_arg1 : entryContents preI m c (Proc.devRef .tc main_arg1) = m ((c.tc : Thread nD τ).loc main_arg1) :=
  after_of_writes_sub hostOps0 _ hostOps0_writes (by decide +kernel)

/-- Before the loop the third argument is as at the launch. -/
theorem pre_arg2 : entryContents preI m c (Proc.devRef .tc main_arg2) = m ((c.tc : Thread nD τ).loc main_arg2) :=
  after_of_writes_sub hostOps0 _ hostOps0_writes (by decide +kernel)

/-- The operations after the loop leave the arguments. -/
theorem post_args (V : Valuation τ sig (Elt Ideal)) :
    afterL postI V (Proc.devRef .tc main_arg0) = V (Proc.devRef .tc main_arg0) ∧
    afterL postI V (Proc.devRef .tc main_arg1) = V (Proc.devRef .tc main_arg1) ∧
    afterL postI V (Proc.devRef .tc main_arg2) = V (Proc.devRef .tc main_arg2) := by
  simp only [postI, afterL_cons, afterL_nil, hostOps0_2_plain, hostOps0_4_plain]
  refine ⟨?_, ?_, ?_⟩ <;> after_results_simp

/-- The result, entry by entry. -/
theorem reference_entry (X Y : Fin 4 → Fin 1024 → Fin 256 → ℝ) (s : ℝ)
    (hX : ∀ b i d, (m ((c.tc : Thread nD τ).loc main_arg0) : FVec Ideal S4x1024x256 .f32) (ix3 b i d) = (X b i d : EReal))
    (hY : ∀ b i d, (m ((c.tc : Thread nD τ).loc main_arg1) : FVec Ideal S4x1024x256 .f32) (ix3 b i d) = (Y b i d : EReal))
    (he : ∀ z, Ideal.div z ((m ((c.tc : Thread nD τ).loc main_arg2) : FVec Ideal S1 .f32) (ix1 0)) = z * (s : EReal)) :
    ∃ κ : Fin 4 → ℝ, ∀ b i d,
      (finalContents condOps preI bodyI postI 20 m c (Proc.devRef .tc main_v57) : FVec Ideal S4x1024x256 .f32) (ix3 b i d) =
        (project (fun i j => gibbs s (X b) (Y b) i j + κ b) (Y b) i d : EReal) := by
  obtain ⟨κ, hκ⟩ := exponents_real (m ((c.tc : Thread nD τ).loc main_arg0)) (m ((c.tc : Thread nD τ).loc main_arg1)) X Y
    (m ((c.tc : Thread nD τ).loc main_arg2)) s hX hY he
  refine ⟨κ, fun b i d => ?_⟩
  have hw (b : Fin 4) (j : Fin 1024) : everywhere 0xC0DDCE9E#32 (ix2 b j) = (logW : EReal) :=
    (everywhere_apply _ b j).trans ofBits_logW
  have h0 (b : Fin 4) (j : Fin 1024) : everywhere 0x00000000#32 (ix2 b j) = ((0 : ℝ) : EReal) := by
    unfold everywhere
    pointwise
    rfl
  have hK : afterLoop m c (Proc.devRef .tc main_v23) = exponents (m ((c.tc : Thread nD τ).loc main_arg0))
      (m ((c.tc : Thread nD τ).loc main_arg1)) (m ((c.tc : Thread nD τ).loc main_arg2)) :=
    (afterLoop_keeps m c main_v23 (by decide +kernel)).trans (pre_exponents _)
  have hb : afterLoop m c (Proc.devRef .tc main_v25) = everywhere 0xC0DDCE9E#32 :=
    (afterLoop_keeps m c main_v25 (by decide +kernel)).trans (pre_weights _)
  have hy : afterLoop m c (Proc.devRef .tc main_arg1) = m ((c.tc : Thread nD τ).loc main_arg1) :=
    (afterLoop_keeps m c main_arg1 (by decide +kernel)).trans (pre_arg1 m c)
  have hu := rounds_real (entryContents preI m c) (fun b i j => gibbs s (X b) (Y b) i j + κ b)
    (fun b i j => (congrFun (pre_carried0 _) (ix3 b i j)).trans (hκ b i j))
    (fun b j => (congrFun (pre_carried1 _) (ix2 b j)).trans (hw b j))
    (fun b i => (congrFun (pre_carried2 _) (ix2 b i)).trans (hw b i))
    (fun b i => (congrFun (pre_carried5 _) (ix2 b i)).trans (h0 b i)) 20
  refine (congrFun (post_result (afterLoop m c)) (ix3 b i d)).trans ?_
  rw [hK, hb, hy, afterLoop_carried]
  exact projection_real _ _ _ _ _ Y hκ hw hu hY b i d

/-- Every execution ends with the result's contents and with the arguments as they were. -/
theorem reference_run : θ_run (defs (F := Ideal)) (onTc (τ := τ) (main (F := Ideal))) ⟨m, fun _ => 0, ρ⟩ (fun r => ∀ c : Dev nD,
    r.2.mem ((c.tc : Thread nD τ).loc main_v57) = finalContents condOps preI bodyI postI 20 m c (Proc.devRef .tc main_v57)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  refine (θ_run defs _ _).mono (fun r h c => ?_) (run_fold m ρ)
  obtain ⟨p0, p1, p2⟩ := post_args (afterLoop m c)
  refine ⟨h c main_v57 rfl, (h c main_arg0 rfl).trans ?_, (h c main_arg1 rfl).trans ?_, (h c main_arg2 rfl).trans ?_⟩
  · exact p0.trans ((afterLoop_keeps m c main_arg0 (by decide +kernel)).trans (pre_arg0 m c))
  · exact p1.trans ((afterLoop_keeps m c main_arg1 (by decide +kernel)).trans (pre_arg1 m c))
  · exact p2.trans ((afterLoop_keeps m c main_arg2 (by decide +kernel)).trans (pre_arg2 m c))

/-- Every execution leaves the arguments as they were and every semaphore at zero. -/
theorem reference_frame : θ_run (defs (F := Ideal)) (onTc (τ := τ) (main (F := Ideal))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2))
    ∧ r.2.sem = fun _ => 0) :=
  (θ_run defs _ _).mono (fun r h => ⟨fun c => (h c).2, sem_eq_zero_of_no_sems (by decide) r.2⟩) (reference_run m ρ)

end Cert.ReferenceIdeal.Value
-- ==== Proof.Finite.lean ====
/-
  What the precondition says: every coordinate of the points is a real number, and the regularisation is not zero.
-/
module

public import proofs.«01_k».proof.Pre_finite_points_and_nonzero_eps
public import proofs.«01_k».proof.Proof.Reals
public import Idealize.ShloMosaic.Lib.Pointwise
public import Idealize.ShloMosaic.Lib.ReduceAll
public import Idealize.ShloMosaic.Lib.StableHlo.Predicate

@[expose] public section

set_option maxRecDepth 16384

noncomputable section

namespace Cert.Finite

open Idealize.ShloMosaic Cert.Pre_finite_points_and_nonzero_eps Cert.Reals

/-- The side conditions of the precondition's operations. -/
theorem facts : Facts := ⟨by decide, by decide, by decide, by decide⟩

/-- A comparison "less" that came out one holds. -/
theorem lt_of_cmp {a b : EReal} (h : Ideal.cmp .olt a b = 1#1) : a < b :=
  of_decide_eq_true ((StableHlo.Predicate.ofBool_eq_one_iff _).1 h)

/-- A comparison "not equal" that came out one holds. -/
theorem ne_of_cmp {a b : EReal} (h : Ideal.cmp .une a b = 1#1) : a ≠ b :=
  of_decide_eq_true ((StableHlo.Predicate.ofBool_eq_one_iff _).1 h)

/-- An array all of whose absolute values are below infinity has real entries. -/
theorem real_of_all (hb : S_.BroadcastsInDim S4x1024x256 (![] : Fin 0 → Fin S4x1024x256.rank))
    (h : S4x1024x256.ReducesTo [0, 1, 2] S_) (hu : 0 < S_.numel) (x : FVec Ideal S4x1024x256 .f32)
    (e : Host.reduce IntOp.andi
      (cmpf .olt (Host.absf x) (broadcastInDim S4x1024x256 ![] hb (constant (F := Ideal) S_ .f32 0x7F800000#32)))
      (constantI S_ 1 1#1) h hu ix0 = 1#1) (b : Fin 4) (i : Fin 1024) (d : Fin 256) :
    ∃ r : ℝ, x (ix3 b i d) = (r : EReal) := by
  have : Subsingleton S_.Idx := ⟨fun p q => funext fun a => a.elim0⟩
  have h1 := Host.reduce_andi_all _ _ h hu ix0 e (ix3 b i d)
  have h2 : Ideal.cmp .olt (max (x (ix3 b i d)) (-x (ix3 b i d))) (Ideal.ofBits .f32 0x7F800000#32) = 1#1 := h1
  rw [ofBits_pos_inf] at h2
  exact exists_of_abs_lt (lt_of_cmp h2)

/-- The precondition read back. -/
theorem of_pre [Facts] (x y : FVec Ideal S4x1024x256 .f32) (e : FVec Ideal S1 .f32)
    (h : fn (F := Ideal) x y e = fun _ => 1#1) :
    (∀ b i d, ∃ r : ℝ, x (ix3 b i d) = (r : EReal)) ∧ (∀ b i d, ∃ r : ℝ, y (ix3 b i d) = (r : EReal)) ∧
      e (ix1 0) ≠ 0 := by
  have h0 := congrFun h ix0
  obtain ⟨h12, h3⟩ := IntOp.andi_eq_one.1 (show IntOp.andi _ _ = 1#1 from h0)
  obtain ⟨h1, h2⟩ := IntOp.andi_eq_one.1 (show IntOp.andi _ _ = 1#1 from h12)
  refine ⟨real_of_all _ _ _ x h1, real_of_all _ _ _ y h2, ?_⟩
  have hs : shapeCast S_ e Facts.shapeCasts_S1_S_ ix0 = e (ix1 0) := by
    pointwise
  have h4 : Ideal.cmp .une (shapeCast S_ e Facts.shapeCasts_S1_S_ ix0) (Ideal.ofBits .f32 0x00000000#32) = 1#1 := h3
  rw [hs] at h4
  have h5 : e (ix1 0) ≠ Ideal.ofBits .f32 0x00000000#32 := ne_of_cmp h4
  rwa [show Ideal.ofBits .f32 0x00000000#32 = 0 from by simp] at h5

end Cert.Finite
-- ==== Proof.Equation.lean ====
/-
  The equation: on the same real points and the same nonzero regularisation the kernel's result array and the
  reference's result are equal, both being the projection `project`; the constant that the reference's shift of the costs
  adds to the exponents of a batch entry makes no difference to the kernel's value.
-/
module

public import proofs.«01_k».proof.Proof.KernelArray
public import proofs.«01_k».proof.Proof.RefValue
public import proofs.«01_k».proof.Proof.Finite

@[expose] public section

set_option maxRecDepth 16384

noncomputable section

namespace Cert.Equation

open Idealize.ShloMosaic Idealize.ShloMosaic.TcCoe Idealize.SL.Sem Idealize.ShloMosaic.StableHlo
open Cert.Reals Cert.Spec

/-- Two arrays over a shape of rank three with the same entries are equal. -/
theorem ext3 {n0 n1 n2 : ℕ} {f g : (⟨3, ![n0, n1, n2]⟩ : Shape).Idx → EReal}
    (h : ∀ b i d, f (ix3 b i d) = g (ix3 b i d)) : f = g := by
  funext p
  have hp : p = ix3 (p 0) (p 1) (p 2) := by
    funext a
    fin_cases a <;> rfl
  rw [hp]
  exact h _ _ _

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)
  (c : Dev KernelIdeal.nD)

/-- The reference's result is the kernel's. -/
theorem reference_eq_kernel
    (x y : FVec Ideal KernelIdeal.S4x1024x256 .f32) (e : FVec Ideal KernelIdeal.S1 .f32)
    (hx : m ((c.tc : Thread KernelIdeal.nD KernelIdeal.τ).loc KernelIdeal.main_arg0) = x)
    (hy : m ((c.tc : Thread KernelIdeal.nD KernelIdeal.τ).loc KernelIdeal.main_arg1) = y)
    (he : m ((c.tc : Thread KernelIdeal.nD KernelIdeal.τ).loc KernelIdeal.main_arg2) = e)
    (hx' : m' ((c.tc : Thread ReferenceIdeal.nD ReferenceIdeal.τ).loc ReferenceIdeal.main_arg0) = x)
    (hy' : m' ((c.tc : Thread ReferenceIdeal.nD ReferenceIdeal.τ).loc ReferenceIdeal.main_arg1) = y)
    (he' : m' ((c.tc : Thread ReferenceIdeal.nD ReferenceIdeal.τ).loc ReferenceIdeal.main_arg2) = e)
    (hX : ∀ b i d, ∃ r : ℝ, x (ix3 b i d) = (r : EReal)) (hY : ∀ b i d, ∃ r : ℝ, y (ix3 b i d) = (r : EReal))
    (hE : e (ix1 0) ≠ 0) :
    (finalContents ReferenceIdeal.Value.condOps ReferenceIdeal.Value.preI ReferenceIdeal.Value.bodyI
        ReferenceIdeal.Value.postI 20 m' c (Proc.devRef .tc ReferenceIdeal.main_v57) :
        FVec Ideal ReferenceIdeal.S4x1024x256 .f32) =
      ((KernelIdeal.Gen.dats m 0 c).arrAt 3 KernelIdeal.cfg0.N : FVec Ideal KernelIdeal.S4x1024x256 .f32) := by
  choose X hX using hX
  choose Y hY using hY
  obtain ⟨s, hs⟩ := exists_inv hE
  obtain ⟨κ, hκ⟩ := ReferenceIdeal.Value.reference_entry m' c X Y s (fun b i d => (congrFun hx' _).trans (hX b i d))
    (fun b i d => (congrFun hy' _).trans (hY b i d)) (fun z => (congrArg (Ideal.div z) (congrFun he' _)).trans (hs z))
  have hρ : Ideal.div 1 (m ((c.tc : Thread KernelIdeal.nD KernelIdeal.τ).loc KernelIdeal.main_arg2) (ix1 0)) = (s : EReal) :=
    (congrArg (Ideal.div 1) (congrFun he _)).trans ((hs 1).trans (one_mul _))
  exact ext3 fun b i d => (hκ b i d).trans
    (KernelIdeal.Value.kernel_entry m c (fun b i d => (congrFun hx _).trans (hX b i d))
      (fun b i d => (congrFun hy _).trans (hY b i d)) hρ (κ b) b i d).symm

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The two programs compute the same result wherever the precondition holds. -/
theorem algebraic : algebraic_KernelIdeal_ReferenceIdeal_pre_finite_points_and_nonzero_eps
    (hKernelIdeal := Cert.KernelIdeal.Gen.facts) (hReferenceIdeal := Cert.ReferenceIdeal.Gen.facts)
    (hPre_finite_points_and_nonzero_eps := Cert.Finite.facts) := by
  intro m g m' g' hpre hargs
  refine ⟨fun c => (Cert.KernelIdeal.Gen.dats m 0 c).arrAt 3 Cert.KernelIdeal.cfg0.N,
    Cert.KernelIdeal.Value.run_blocks m g, ?_⟩
  refine (θ_run _ _ _).mono (fun r h c => ⟨(h c).1.trans ?_, (h c).2⟩) (Cert.ReferenceIdeal.Value.reference_run m' g')
  obtain ⟨hx, hy, he⟩ := @Cert.Finite.of_pre Cert.Finite.facts _ _ _ (hpre c)
  obtain ⟨a0, a1, a2⟩ := hargs c
  exact Cert.Equation.reference_eq_kernel m m' c _ _ _ rfl rfl rfl a0 a1 a2 hx hy he

/-- All the claims. -/
theorem claim : Cert.Claim :=
  ⟨Cert.Kernel.Gen.facts, Cert.KernelIdeal.Gen.facts, Cert.ReferenceIdeal.Gen.facts, Cert.Finite.facts,
    fun m g _ => Cert.Kernel.Gen.frame m g,
    fun m g _ => Cert.KernelIdeal.Gen.frame m g,
    fun m g _ => Cert.KernelIdeal.Gen.frame m g,
    fun m g _ => Cert.ReferenceIdeal.Value.reference_frame m g,
    fun m g _ => Cert.ReferenceIdeal.Value.reference_frame m g,
    trivial,
    algebraic⟩

end Cert.Proof

end
